-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
-- ==== Pre_finite.lean ====
abbrev S4x4096x1024 : Shape := ⟨3, ![4, 4096, 1024]⟩
abbrev S4x6144 : Shape := ⟨2, ![4, 6144]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x1024 : Shape := ⟨2, ![1024, 1024]⟩
abbrev S_ : Shape := ⟨0, ![]⟩

class Facts : Prop where
  bcast_S_S4x6144 : S_.BroadcastsInDim S4x6144 (![] : Fin 0 → Fin S4x6144.rank)
  bcast_S_S1024 : S_.BroadcastsInDim S1024 (![] : Fin 0 → Fin S1024.rank)
  bcast_S_S1024x3088 : S_.BroadcastsInDim S1024x3088 (![] : Fin 0 → Fin S1024x3088.rank)
  bcast_S_S16x512 : S_.BroadcastsInDim S16x512 (![] : Fin 0 → Fin S16x512.rank)
  bcast_S_S512 : S_.BroadcastsInDim S512 (![] : Fin 0 → Fin S512.rank)

variable [Facts]

def fn {F : FTy → Type} [FloatOps F] (main_arg0 : FVec F S4x4096x1024 .f32) (main_arg1 : FVec F S4x6144 .f32) (main_arg2 : FVec F S1024 .f32) (main_arg3 : FVec F S1024x3088 .f32) (main_arg4 : FVec F S16x512 .f32) (main_arg5 : FVec F S512 .f32) (main_arg6 : FVec F S1024 .f32) (main_arg7 : FVec F S1024x1024 .f32) : IVec S4x6144 1 × IVec S1024 1 × IVec S1024x3088 1 × IVec S16x512 1 × IVec S512 1 :=
  let main_v0 : FVec F S4x6144 .f32 := Host.absf main_arg1
  let main_cst : FVec F S_ .f32 := constant S_ .f32 0x7F800000#32
  let main_v1 : FVec F S4x6144 .f32 := broadcastInDim S4x6144 ![] bcast_S_S4x6144 main_cst
  let main_v2 : IVec S4x6144 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3088 .f32 := Host.absf main_arg3
  let main_cst_1 : FVec F S_ .f32 := constant S_ .f32 0x7F800000#32
  let main_v7 : FVec F S1024x3088 .f32 := broadcastInDim S1024x3088 ![] bcast_S_S1024x3088 main_cst_1
  let main_v8 : IVec S1024x3088 1 := cmpf .olt main_v6 main_v7
  let main_v9 : FVec F S16x512 .f32 := Host.absf main_arg4
  let main_cst_2 : FVec F S_ .f32 := constant S_ .f32 0x7F800000#32
  let main_v10 : FVec F S16x512 .f32 := broadcastInDim S16x512 ![] bcast_S_S16x512 main_cst_2
  let main_v11 : IVec S16x512 1 := cmpf .olt main_v9 main_v10
  let main_v12 : FVec F S512 .f32 := Host.absf main_arg5
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  (main_v2, main_v5, main_v8, main_v11, main_v14)
-- ==== Kernel.lean ====
abbrev S4x4096x1024 : Shape := ⟨3, ![4, 4096, 1024]⟩
abbrev S4x6144 : Shape := ⟨2, ![4, 6144]⟩
abbrev S1024 : Shape := ⟨1, ![1024]⟩
abbrev S2x1024x4096 : Shape := ⟨3, ![2, 1024, 4096]⟩
abbrev S2x4096x1024 : Shape := ⟨3, ![2, 4096, 1024]⟩
abbrev S4x6x1024 : Shape := ⟨3, ![4, 6, 1024]⟩
abbrev S16384x1024 : Shape := ⟨2, ![16384, 1024]⟩
abbrev S1x1024 : Shape := ⟨2, ![1, 1024]⟩
abbrev S1024x1024 : Shape := ⟨2, ![1024, 1024]⟩
abbrev S1x6x1024 : Shape := ⟨3, ![1, 6, 1024]⟩
abbrev S1024x4096 : Shape := ⟨2, ![1024, 4096]⟩
abbrev S4096x1024 : Shape := ⟨2, ![4096, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S4x6x1024, .f32⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x4096, .bf16⟩
  | .local _ .vmem, ⟨9, _⟩ => ⟨S4096x1024, .bf16⟩
  | .local _ .vmem, ⟨10, _⟩ => ⟨S2x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scoped0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x4096x1024 : Shape := ⟨3, ![4, 4096, 1024]⟩
abbrev S4x6144 : Shape := ⟨2, ![4, 6144]⟩
abbrev S1024 : Shape := ⟨1, ![1024]⟩
abbrev S2x1024x4096 : Shape := ⟨3, ![2, 1024, 4096]⟩
abbrev S2x4096x1024 : Shape := ⟨3, ![2, 4096, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S1x1024x4096, .f32⟩
  | .hbm, ⟨39, _⟩ => ⟨S1024x4096, .f32⟩
  | .hbm, ⟨40, _⟩ => ⟨S1x4096x1024, .f32⟩
  | .hbm, ⟨41, _⟩ => ⟨S4096x1024, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S4x4096x1024, .f32⟩
  | .hbm, ⟨52, _⟩ => ⟨S_, .f32⟩
  | .hbm, ⟨53, _⟩ => ⟨S4x4096, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S_, .f32⟩
  | .hbm, ⟨59, _⟩ => ⟨S4x4096x1, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x6144 : Shape := ⟨2, ![4, 6144]⟩
abbrev S1024 : Shape := ⟨1, ![1024]⟩
abbrev S2x1024x4096 : Shape := ⟨3, ![2, 1024, 4096]⟩
abbrev S2x4096x1024 : Shape := ⟨3, ![2, 4096, 1024]⟩
abbrev S4x6x1024 : Shape := ⟨3, ![4, 6, 1024]⟩
abbrev S16384x1024 : Shape := ⟨2, ![16384, 1024]⟩
abbrev S1x1024 : Shape := ⟨2, ![1, 1024]⟩
abbrev S1024x1024 : Shape := ⟨2, ![1024, 1024]⟩
abbrev S1x6x1024 : Shape := ⟨3, ![1, 6, 1024]⟩
abbrev S1024x4096 : Shape := ⟨2, ![1024, 4096]⟩
abbrev S4096x1024 : Shape := ⟨2, ![4096, 1024]⟩
abbrev S2x1024x1024 : Shape := ⟨3, ![2, 1024, 1024]⟩
abbrev S2 : Shape := ⟨1, ![2]⟩
abbrev S1 : Shape := ⟨1, ![1]⟩
abbrev S_ : Shape := ⟨0, ![]⟩
abbrev S1x1024x1024 : Shape := ⟨3, ![1, 1024, 1024]⟩
abbrev S1x1024x4096 : Shape := ⟨3, ![1, 1024, 4096]⟩
abbrev S1x4096x1024 : Shape := ⟨3, ![1, 4096, 1024]⟩
abbrev S1x1x1024 : Shape := ⟨3, ![1, 1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S4x6x1024, .f32⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x4096, .bf16⟩
  | .local _ .vmem, ⟨9, _⟩ => ⟨S4096x1024, .bf16⟩
  | .local _ .vmem, ⟨10, _⟩ => ⟨S2x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scoped0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S4x4096x1024 : Shape := ⟨3, ![4, 4096, 1024]⟩
abbrev S4x6144 : Shape := ⟨2, ![4, 6144]⟩
abbrev S1024 : Shape := ⟨1, ![1024]⟩
abbrev S2x1024x4096 : Shape := ⟨3, ![2, 1024, 4096]⟩
abbrev S2x4096x1024 : Shape := ⟨3, ![2, 4096, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S4x4096x4096 : Shape := ⟨3, ![4, 4096, 4096]⟩
abbrev S16384x1024 : Shape := ⟨2, ![16384, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S2x1024x4096, .f32⟩
  | .hbm, ⟨4, _⟩ => ⟨S2x4096x1024, .f32⟩
  | .hbm, ⟨5, _⟩ => ⟨S1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x1x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x1x1024, .f32⟩
  | .hbm, ⟨38, _⟩ => ⟨S1x1024x4096, .f32⟩
  | .hbm, ⟨39, _⟩ => ⟨S1024x4096, .f32⟩
  | .hbm, ⟨40, _⟩ => ⟨S1x4096x1024, .f32⟩
  | .hbm, ⟨41, _⟩ => ⟨S4096x1024, .f32⟩
  | .hbm, ⟨42, _⟩ => ⟨S4x4096x4096, .f32⟩
  | .hbm, ⟨43, _⟩ => ⟨S_, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Kernel3.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩
abbrev S2x4x6144 : Shape := ⟨3, ![2, 4, 6144]⟩

abbrev nBuf : Space → Nat
  | .hbm => 9
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S2x1x6144, .f32⟩
  | .hbm, ⟨7, _⟩ => ⟨S2x8x6144, .f32⟩
  | .hbm, ⟨8, _⟩ => ⟨S2x4x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S1x1024x6144 : Shape := ⟨3, ![1, 1024, 6144]⟩
abbrev S1024x6144 : Shape := ⟨2, ![1024, 6144]⟩
abbrev S4x6144 : Shape := ⟨2, ![4, 6144]⟩
abbrev S1x6144 : Shape := ⟨2, ![1, 6144]⟩
abbrev S6144 : Shape := ⟨1, ![6144]⟩
abbrev S1x4x6144 : Shape := ⟨3, ![1, 4, 6144]⟩
abbrev S2x4x6144 : Shape := ⟨3, ![2, 4, 6144]⟩

abbrev nBuf : Space → Nat
  | .hbm => 31
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x1024x6144, .f32⟩
  | .hbm, ⟨13, _⟩ => ⟨S1024x6144, .f32⟩
  | .hbm, ⟨14, _⟩ => ⟨S4x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S4x6144, .f32⟩
  | .hbm, ⟨19, _⟩ => ⟨S4x6144, .f32⟩
  | .hbm, ⟨20, _⟩ => ⟨S1x1024x6144, .f32⟩
  | .hbm, ⟨21, _⟩ => ⟨S1024x6144, .f32⟩
  | .hbm, ⟨22, _⟩ => ⟨S4x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S4x6144, .f32⟩
  | .hbm, ⟨27, _⟩ => ⟨S4x6144, .f32⟩
  | .hbm, ⟨28, _⟩ => ⟨S1x4x6144, .f32⟩
  | .hbm, ⟨29, _⟩ => ⟨S1x4x6144, .f32⟩
  | .hbm, ⟨30, _⟩ => ⟨S2x4x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x6144 : Shape := ⟨2, ![4, 6144]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x1024 : Shape := ⟨2, ![1024, 1024]⟩
abbrev S_ : Shape := ⟨0, ![]⟩
abbrev S128x512 : Shape := ⟨2, ![128, 512]⟩
abbrev S4x6x1024 : Shape := ⟨3, ![4, 6, 1024]⟩
abbrev S1x1024 : Shape := ⟨2, ![1, 1024]⟩
abbrev S1x512 : Shape := ⟨2, ![1, 512]⟩
abbrev S4x256x1024 : Shape := ⟨3, ![4, 256, 1024]⟩
abbrev S4x4x256x128 : Shape := ⟨4, ![4, 4, 256, 128]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S256x512 : Shape := ⟨2, ![256, 512]⟩
abbrev S1024x128 : Shape := ⟨2, ![1024, 128]⟩
abbrev S256x128 : Shape := ⟨2, ![256, 128]⟩
abbrev S64x64 : Shape := ⟨2, ![64, 64]⟩
abbrev S64x1024 : Shape := ⟨2, ![64, 1024]⟩
abbrev S64x512 : Shape := ⟨2, ![64, 512]⟩
abbrev S64x256 : Shape := ⟨2, ![64, 256]⟩
abbrev S64x128 : Shape := ⟨2, ![64, 128]⟩
abbrev S1x128 : Shape := ⟨2, ![1, 128]⟩
abbrev S1x1x256x128 : Shape := ⟨4, ![1, 1, 256, 128]⟩
abbrev S1x64x256 : Shape := ⟨3, ![1, 64, 256]⟩
abbrev S1x256x256 : Shape := ⟨3, ![1, 256, 256]⟩
abbrev S256x256 : Shape := ⟨2, ![256, 256]⟩

abbrev nBuf : Space → Nat
  | .hbm => 19
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x3088, .f32⟩
  | .hbm, ⟨4, _⟩ => ⟨S16x512, .f32⟩
  | .hbm, ⟨5, _⟩ => ⟨S512, .f32⟩
  | .hbm, ⟨6, _⟩ => ⟨S1024, .f32⟩
  | .hbm, ⟨7, _⟩ => ⟨S1024x1024, .f32⟩
  | .hbm, ⟨8, _⟩ => ⟨S_, .i32⟩
  | .hbm, ⟨9, _⟩ => ⟨S_, .f32⟩
  | .hbm, ⟨10, _⟩ => ⟨S128x512, .f32⟩
  | .hbm, ⟨11, _⟩ => ⟨S128x512, .bf16⟩
  | .hbm, ⟨12, _⟩ => ⟨S4x6x1024, .f32⟩
  | .hbm, ⟨13, _⟩ => ⟨S1024x3088, .bf16⟩
  | .hbm, ⟨14, _⟩ => ⟨S1024x1024, .bf16⟩
  | .hbm, ⟨15, _⟩ => ⟨S1x1024, .f32⟩
  | .hbm, ⟨16, _⟩ => ⟨S1x512, .f32⟩
  | .hbm, ⟨17, _⟩ => ⟨S1x1024, .f32⟩
  | .hbm, ⟨18, _⟩ => ⟨S4x4096x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x6x1024, .f32⟩
  | .local _ .vmem, ⟨3, _⟩ => ⟨S1x1024, .f32⟩
  | .local _ .vmem, ⟨4, _⟩ => ⟨S1024x3088, .bf16⟩
  | .local _ .vmem, ⟨5, _⟩ => ⟨S128x512, .bf16⟩
  | .local _ .vmem, ⟨6, _⟩ => ⟨S1x512, .f32⟩
  | .local _ .vmem, ⟨7, _⟩ => ⟨S1x1024, .f32⟩
  | .local _ .vmem, ⟨8, _⟩ => ⟨S1024x1024, .bf16⟩
  | .local _ .vmem, ⟨9, _⟩ => ⟨S4x256x1024, .f32⟩
  | .local _ .vmem, ⟨10, _⟩ => ⟨S4x256x1024, .f32⟩
  | .local _ .vmem, ⟨11, _⟩ => ⟨S4x4x256x128, .f32⟩
  | .local _ .vmem, ⟨12, _⟩ => ⟨S4x256x1024, .f32⟩
  | .local _ .vmem, ⟨13, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3088 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x4096x1024 : Shape := ⟨3, ![4, 4096, 1024]⟩
abbrev S4x6144 : Shape := ⟨2, ![4, 6144]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x1024 : Shape := ⟨2, ![1024, 1024]⟩
abbrev S4x1024 : Shape := ⟨2, ![4, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x3088 : Shape := ⟨3, ![4, 4096, 3088]⟩
abbrev S4x4096x512 : Shape := ⟨3, ![4, 4096, 512]⟩
abbrev S4x4096x16 : Shape := ⟨3, ![4, 4096, 16]⟩
abbrev S1x1x512 : Shape := ⟨3, ![1, 1, 512]⟩
abbrev S4x64x64x4x128 : Shape := ⟨5, ![4, 64, 64, 4, 128]⟩
abbrev S4x4x64x64x128 : Shape := ⟨5, ![4, 4, 64, 64, 128]⟩
abbrev S4x64x64x4x256 : Shape := ⟨5, ![4, 64, 64, 4, 256]⟩
abbrev S4x4x64x64x256 : Shape := ⟨5, ![4, 4, 64, 64, 256]⟩
abbrev S4x4x64x1x128 : Shape := ⟨5, ![4, 4, 64, 1, 128]⟩
abbrev S4x4x64x64x64 : Shape := ⟨5, ![4, 4, 64, 64, 64]⟩
abbrev S4x4x64x128x256 : Shape := ⟨5, ![4, 4, 64, 128, 256]⟩
abbrev S4x4x64x128 : Shape := ⟨4, ![4, 4, 64, 128]⟩
abbrev S4x4x128x256 : Shape := ⟨4, ![4, 4, 128, 256]⟩
abbrev S64x4x4x128x256 : Shape := ⟨5, ![64, 4, 4, 128, 256]⟩
abbrev S64x4x4x128 : Shape := ⟨4, ![64, 4, 4, 128]⟩
abbrev S1x4x4x128x256 : Shape := ⟨5, ![1, 4, 4, 128, 256]⟩
abbrev S1x4x4x128 : Shape := ⟨4, ![1, 4, 4, 128]⟩
abbrev S4x4x128 : Shape := ⟨3, ![4, 4, 128]⟩
abbrev S4x4x128x1 : Shape := ⟨4, ![4, 4, 128, 1]⟩
abbrev S4x4x64x64 : Shape := ⟨4, ![4, 4, 64, 64]⟩
abbrev S4x4x64x64x1 : Shape := ⟨5, ![4, 4, 64, 64, 1]⟩

abbrev nBuf : Space → Nat
  | .hbm => 168
  | .vmem => 0
  | .smem => 0
  | _ => 0

abbrev hbmTy0_0 (i : Nat) : BufTy := match i % 128 with
  | 0 => ⟨S4x4096x1024, .f32⟩
  | 1 => ⟨S4x6144, .f32⟩
  | 2 => ⟨S1024, .f32⟩
  | 3 => ⟨S1024x3088, .f32⟩
  | 4 => ⟨S16x512, .f32⟩
  | 5 => ⟨S512, .f32⟩
  | 6 => ⟨S1024, .f32⟩
  | 7 => ⟨S1024x1024, .f32⟩
  | 8 => ⟨S4x1024, .f32⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S4x1x1024, .f32⟩
  | 31 => ⟨S_, .f32⟩
  | 32 => ⟨S4x1x1024, .f32⟩
  | 33 => ⟨S4x1x1024, .f32⟩
  | 34 => ⟨S4x4096x1024, .f32⟩
  | 35 => ⟨S4x4096x1024, .f32⟩
  | 36 => ⟨S4x1x1024, .f32⟩
  | 37 => ⟨S4x4096x1024, .f32⟩
  | 38 => ⟨S4x4096x1024, .f32⟩
  | 39 => ⟨S4x4096x3088, .f32⟩
  | 40 => ⟨S4x4096x512, .f32⟩
  | 41 => ⟨S4x4096x512, .f32⟩
  | 42 => ⟨S4x4096x1024, .f32⟩
  | 43 => ⟨S4x4096x16, .f32⟩
  | 44 => ⟨S4x4096x1024, .f32⟩
  | 45 => ⟨S4x4096x512, .f32⟩
  | 46 => ⟨S1x1x512, .f32⟩
  | 47 => ⟨S4x4096x512, .f32⟩
  | 48 => ⟨S4x4096x512, .f32⟩
  | 49 => ⟨S4x4096x512, .f32⟩
  | 50 => ⟨S_, .f32⟩
  | 51 => ⟨S4x4096x512, .f32⟩
  | 52 => ⟨S4x4096x512, .f32⟩
  | 53 => ⟨S4x4096x512, .f32⟩
  | 54 => ⟨S4x4096x512, .f32⟩
  | 55 => ⟨S4x4096x512, .i1⟩
  | 56 => ⟨S4x4096x512, .f32⟩
  | 57 => ⟨S4x4096x512, .f32⟩
  | 58 => ⟨S4x4096x512, .f32⟩
  | 59 => ⟨S4x4096x512, .f32⟩
  | 60 => ⟨S4x4096x512, .f32⟩
  | 61 => ⟨S4x4096x512, .f32⟩
  | 62 => ⟨S4x4096x512, .f32⟩
  | 63 => ⟨S4x4096x512, .f32⟩
  | 64 => ⟨S4x4096x512, .f32⟩
  | 65 => ⟨S_, .f32⟩
  | 66 => ⟨S4x4096x512, .f32⟩
  | 67 => ⟨S4x4096x512, .f32⟩
  | 68 => ⟨S4x64x64x4x128, .f32⟩
  | 69 => ⟨S4x4x64x64x128, .f32⟩
  | 70 => ⟨S_, .f32⟩
  | 71 => ⟨S4x4x64x64x128, .f32⟩
  | 72 => ⟨S4x4x64x64x128, .f32⟩
  | 73 => ⟨S4x64x64x4x128, .f32⟩
  | 74 => ⟨S4x4x64x64x128, .f32⟩
  | 75 => ⟨S4x64x64x4x256, .f32⟩
  | 76 => ⟨S4x4x64x64x256, .f32⟩
  | 77 => ⟨S4x64x64x4x128, .f32⟩
  | 78 => ⟨S4x4x64x64x128, .f32⟩
  | 79 => ⟨S_, .f32⟩
  | 80 => ⟨S_, .f32⟩
  | 81 => ⟨S4x4x64x64x128, .f32⟩
  | 82 => ⟨S4x4x64x1x128, .f32⟩
  | 83 => ⟨S4x4x64x64x128, .f32⟩
  | 84 => ⟨S4x4x64x64x128, .f32⟩
  | 85 => ⟨S4x4x64x64x128, .f32⟩
  | 86 => ⟨S4x4x64x64x128, .f32⟩
  | 87 => ⟨S4x4x64x64x64, .f32⟩
  | 88 => ⟨S4x4x64x64x256, .f32⟩
  | 89 => ⟨S4x4x64x128x256, .f32⟩
  | 90 => ⟨S4x4x64x128, .f32⟩
  | 91 => ⟨S4x4x64x128, .f32⟩
  | 92 => ⟨S_, .f32⟩
  | 93 => ⟨S4x4x128x256, .f32⟩
  | 94 => ⟨S64x4x4x128x256, .f32⟩
  | 95 => ⟨S64x4x4x128, .f32⟩
  | 96 => ⟨S_, .f32⟩
  | 97 => ⟨S64x4x4x128x256, .f32⟩
  | 98 => ⟨S_, .i32⟩
  | 99 => ⟨S64x4x4x128x256, .f32⟩
  | 100 => ⟨S64x4x4x128, .f32⟩
  | 101 => ⟨S_, .i32⟩
  | 102 => ⟨S4x4x128x256, .f32⟩
  | 103 => ⟨S64x4x4x128x256, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x4x4x128x256, .f32⟩
  | 111 => ⟨S4x4x128x256, .f32⟩
  | 112 => ⟨S_, .i32⟩
  | 113 => ⟨S_, .i32⟩
  | 114 => ⟨S_, .i32⟩
  | 115 => ⟨S1x4x4x128, .f32⟩
  | 116 => ⟨S4x4x128, .f32⟩
  | 117 => ⟨S4x4x128x1, .f32⟩
  | 118 => ⟨S4x4x128x256, .f32⟩
  | 119 => ⟨S4x4x128x256, .f32⟩
  | 120 => ⟨S4x4x128x256, .f32⟩
  | 121 => ⟨S1x4x4x128x256, .f32⟩
  | 122 => ⟨S_, .i32⟩
  | 123 => ⟨S_, .i32⟩
  | 124 => ⟨S_, .i32⟩
  | 125 => ⟨S_, .i32⟩
  | 126 => ⟨S64x4x4x128x256, .f32⟩
  | 127 => ⟨S_, .i32⟩
  | _ => ⟨S4x4096x1024, .f32⟩

abbrev hbmTy0_1 (i : Nat) : BufTy := match i % 128 with
  | 0 => ⟨S_, .i32⟩
  | 1 => ⟨S4x4x64x128x256, .f32⟩
  | 2 => ⟨S4x4x64x1x128, .f32⟩
  | 3 => ⟨S4x4x64x64x128, .f32⟩
  | 4 => ⟨S4x4x64x64x128, .f32⟩
  | 5 => ⟨S4x4x64x64x256, .f32⟩
  | 6 => ⟨S4x4x64x64x256, .f32⟩
  | 7 => ⟨S4x4x64x64x256, .f32⟩
  | 8 => ⟨S_, .f32⟩
  | 9 => ⟨S4x4x64x64, .f32⟩
  | 10 => ⟨S4x4x64x64x1, .f32⟩
  | 11 => ⟨S_, .f32⟩
  | 12 => ⟨S4x4x64x64x1, .f32⟩
  | 13 => ⟨S4x4x64x64x1, .f32⟩
  | 14 => ⟨S_, .f32⟩
  | 15 => ⟨S4x4x64x64x1, .f32⟩
  | 16 => ⟨S4x4x64x64x1, .f32⟩
  | 17 => ⟨S4x4x64x64x1, .f32⟩
  | 18 => ⟨S4x4x64x64x256, .f32⟩
  | 19 => ⟨S4x4x64x64x256, .f32⟩
  | 20 => ⟨S4x64x64x4x256, .f32⟩
  | 21 => ⟨S4x4096x1024, .f32⟩
  | 22 => ⟨S1x1x1024, .f32⟩
  | 23 => ⟨S4x4096x1024, .f32⟩
  | 24 => ⟨S4x4096x1024, .f32⟩
  | 25 => ⟨S4x4096x1024, .f32⟩
  | 26 => ⟨S4x4096x1024, .f32⟩
  | 27 => ⟨S_, .f32⟩
  | 28 => ⟨S4x4096x1024, .f32⟩
  | 29 => ⟨S4x4096x1024, .f32⟩
  | 30 => ⟨S_, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x1024, .f32⟩
  | 36 => ⟨S4x1x1024, .f32⟩
  | 37 => ⟨S4x4096x1024, .f32⟩
  | 38 => ⟨S4x4096x1024, .f32⟩
  | 39 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v37 : Ref sig .tc := ⟨.hbm, 64, rfl⟩
abbrev main_cst_3 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call1_call0_cst : Ref sig .tc := ⟨.hbm, 79, rfl⟩
abbrev main_call1_call0_v0 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_5 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_6 : Ref sig .tc := ⟨.hbm, 96, rfl⟩
abbrev main_v64 : Ref sig .tc := ⟨.hbm, 97, rfl⟩
abbrev main_c : Ref sig .tc := ⟨.hbm, 98, rfl⟩
abbrev main_v65_0 : Ref sig .tc := ⟨.hbm, 99, rfl⟩
abbrev main_v65_1 : Ref sig .tc := ⟨.hbm, 100, rfl⟩
abbrev main_v65_2 : Ref sig .tc := ⟨.hbm, 101, rfl⟩
abbrev main_v65_3 : Ref sig .tc := ⟨.hbm, 102, rfl⟩
abbrev main_v65_4 : Ref sig .tc := ⟨.hbm, 103, rfl⟩
abbrev main_while0c_c_14 : Ref sig .tc := ⟨.hbm, 104, rfl⟩
abbrev main_while0c_v94 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_c_1 : Ref sig .tc := ⟨.hbm, 108, rfl⟩
abbrev main_while0b_call2_c_2 : Ref sig .tc := ⟨.hbm, 109, rfl⟩
abbrev main_while0b_call2_v0 : Ref sig .tc := ⟨.hbm, 110, rfl⟩
abbrev main_while0b_v94 : Ref sig .tc := ⟨.hbm, 111, rfl⟩
abbrev main_while0b_call3_c : Ref sig .tc := ⟨.hbm, 112, rfl⟩
abbrev main_while0b_call3_c_0 : Ref sig .tc := ⟨.hbm, 113, rfl⟩
abbrev main_while0b_call3_c_1 : Ref sig .tc := ⟨.hbm, 114, rfl⟩
abbrev main_while0b_call3_v0 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_c_2 : Ref sig .tc := ⟨.hbm, 125, rfl⟩
abbrev main_while0b_v100 : Ref sig .tc := ⟨.hbm, 126, rfl⟩
abbrev main_while0b_c_14 : Ref sig .tc := ⟨.hbm, 127, rfl⟩
abbrev main_while0b_v101 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_cst_7 : Ref sig .tc := ⟨.hbm, 136, rfl⟩
abbrev main_v73 : Ref sig .tc := ⟨.hbm, 137, rfl⟩
abbrev main_v74 : Ref sig .tc := ⟨.hbm, 138, rfl⟩
abbrev main_cst_8 : Ref sig .tc := ⟨.hbm, 139, rfl⟩
abbrev main_v75 : Ref sig .tc := ⟨.hbm, 140, rfl⟩
abbrev main_v76 : Ref sig .tc := ⟨.hbm, 141, rfl⟩
abbrev main_cst_9 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_call5_v0 : Ref sig .tc := ⟨.hbm, 153, rfl⟩
abbrev main_call5_v1 : Ref sig .tc := ⟨.hbm, 154, rfl⟩
abbrev main_call5_cst : Ref sig .tc := ⟨.hbm, 155, rfl⟩
abbrev main_call5_v2 : Ref sig .tc := ⟨.hbm, 156, rfl⟩
abbrev main_call5_v3 : Ref sig .tc := ⟨.hbm, 157, rfl⟩
abbrev main_call5_cst_0 : Ref sig .tc := ⟨.hbm, 158, rfl⟩
abbrev main_call5_v4 : Ref sig .tc := ⟨.hbm, 159, rfl⟩
abbrev main_call5_v5 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩

abbrev nD : Nat := 1
abbrev τ : Topo := Topo.v7x

variable {F : FTy → Type} [FloatOps F]

abbrev main_while0_count : Scf.Loop 32 := ⟨0#32, 64#32, 1#32⟩
-- ==== Proof.Frame4.lean ====
/- The gated linear attention reference writes none of its arguments: neither a stretch before or after its loop of 64
   trips nor a trip does. -/
module

public import proofs.«01_k».proof.Proof.Gen.Reference4Ideal.Run

@[expose] public section

noncomputable section

namespace Cert.Reference4Ideal.Hand

open Cert.Reference4Ideal Cert.Reference4Ideal.Gen Cert.Reference4Ideal.Value
open Idealize.ShloMosaic Idealize.ShloMosaic.TcCoe Idealize.ShloMosaic.StableHlo
open Idealize.SL Idealize.SL.Sem

variable {F : FTy → Type} [FloatOps F]

/-- What the stretches after the loop write. -/
abbrev hostOps0_5_W : List (Ref sig .tc) := [main_v66, main_v67, main_v68, main_v69, main_v70, main_v71, main_v72, main_cst_7, main_v73, main_v74, main_cst_8, main_v75, main_v76, main_cst_9, main_v77, main_v78, main_v79, main_v80, main_v81, main_v82, main_v83, main_v84, main_v85, main_v86]
theorem hostOps0_5_writes : (hostOps0_5 : List (HloOp τ sig (Elt F))).Forall fun op => op.writes ⊆ (hostOps0_5_W.map (Proc.devRef (τ := τ) .tc)).toFinset :=
  forall_writes_sub_of_map rfl
abbrev hostOps0_6_W : List (Ref sig .tc) := [main_call5_v0, main_call5_v1, main_call5_cst, main_call5_v2, main_call5_v3, main_call5_cst_0, main_call5_v4, main_call5_v5, main_v87]
theorem hostOps0_6_writes : (hostOps0_6 : List (HloOp τ sig (Elt F))).Forall fun op => op.writes ⊆ (hostOps0_6_W.map (Proc.devRef (τ := τ) .tc)).toFinset :=
  forall_writes_sub_of_map rfl
abbrev hostOps0_7_W : List (Ref sig .tc) := [main_v88, main_v89, main_v90, main_v91, main_v92, main_v93]
theorem hostOps0_7_writes : (hostOps0_7 : List (HloOp τ sig (Elt F))).Forall fun op => op.writes ⊆ (hostOps0_7_W.map (Proc.devRef (τ := τ) .tc)).toFinset :=
  forall_writes_sub_of_map rfl

/-- What the program's operations write, before the loop, in a trip, in the loop's test and after the loop. -/
abbrev preW : List (Ref sig .tc) := hostOps0_W ++ (hostOps0_1_W ++ (hostOps0_2_W ++ (hostOps0_3_W ++ hostOps0_4_W)))
abbrev tripW : List (Ref sig .tc) := while0Ops0_W ++ (while0Ops0_1_W ++ (while0Ops0_2_W ++ (while0Ops0_3_W ++ (while0Ops0_4_W ++ condOps_W))))
abbrev postW : List (Ref sig .tc) := hostOps0_5_W ++ (hostOps0_6_W ++ hostOps0_7_W)

theorem pre_keep (V : Valuation τ sig (Elt F)) (r : Ref sig .tc) (h : r ∉ preW) :
    afterL preI V (Proc.devRef .tc r) = V (Proc.devRef .tc r) := by
  simp only [preW, List.mem_append, not_or] at h
  obtain ⟨h0, h1, h2, h3, h4⟩ := h
  simp only [afterL_cons, afterL_nil]
  rw [after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

theorem post_keep (V : Valuation τ sig (Elt F)) (r : Ref sig .tc) (h : r ∉ postW) :
    afterL postI V (Proc.devRef .tc r) = V (Proc.devRef .tc r) := by
  simp only [postW, List.mem_append, not_or] at h
  obtain ⟨h0, h1, h2⟩ := h
  simp only [afterL_cons, afterL_nil]
  rw [after_of_writes_sub _ _ hostOps0_7_writes h2, after_of_writes_sub _ _ hostOps0_6_writes h1, after_of_writes_sub _ _ hostOps0_5_writes h0]

theorem atK_keep (m : (ℓ : Loc nD τ sig) → Buf (Elt F) ℓ) (c : Dev nD) (r : Ref sig .tc) (h : r ∉ tripW) :
    ∀ k, atK m k c (Proc.devRef .tc r) = entryContents preI m c (Proc.devRef .tc r)
  | 0 => rfl
  | k + 1 => by
    have ih := atK_keep m c r h k
    simp only [tripW, List.mem_append, not_or] at h
    obtain ⟨h0, h1, h2, h3, h4, h5⟩ := h
    refine Eq.trans ?_ ih
    simp only [atK, atTrip_succ, afterL_cons, afterL_nil]
    rw [after_of_writes_sub _ _ while0Ops0_4_writes h4, after_of_writes_sub _ _ while0Ops0_3_writes h3, after_of_writes_sub _ _ while0Ops0_2_writes h2,
      after_of_writes_sub _ _ while0Ops0_1_writes h1, after_of_writes_sub _ _ while0Ops0_writes h0, after_of_writes_sub _ _ condOps_writes h5]

/-- a buffer nothing writes ends as it began. -/
theorem final_keep (m : (ℓ : Loc nD τ sig) → Buf (Elt F) ℓ) (c : Dev nD) (r : Ref sig .tc) (h : r ∉ preW ++ (tripW ++ postW)) :
    finalContents condOps preI bodyI postI 64 m c (Proc.devRef .tc r) = m ((c.tc : Thread nD τ).loc r) := by
  simp only [List.mem_append (s := preW), List.mem_append (s := tripW), not_or] at h
  have hc : r ∉ condOps_W := fun hc => h.2.1 (by simp only [tripW, List.mem_append]; tauto)
  exact (post_keep _ r h.2.2).trans ((after_of_writes_sub _ _ condOps_writes hc).trans ((atK_keep m c r h.2.1 64).trans (pre_keep _ r h.1)))

end Cert.Reference4Ideal.Hand

end
-- ==== Proof.Kit.lean ====
/-
The launch of the last MLP's call, at any instance of the floats: @main up to the kernel, the buffers the kernel works
with, and the pipeline's invariant conjunct by conjunct. (The kernel copies the weights itself, from arrays in HBM and on
semaphores of its own, so the algebra is the one with a share for the copies in flight.)
-/
module

public import proofs.«01_k».proof.Proof.Gen.Kernel.Frame
public import proofs.«01_k».proof.Proof.Gen.Kernel.Skeleton
public import Idealize.ShloMosaic.Lib.WholeRead
public import Idealize.ShloMosaic.Lib.VecWindow

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers -/

/-- The first grid point's test. -/
abbrev cond0_0 (i : grid0.Coords) : Prop := (Scalar.cmpi .ne (Scalar.extui (Scalar.cmpi .eq (BitVec.ofNat 32 (i 0).val) 0#32)) 0#32) = 1#1

theorem first_iff : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The windows' staging buffers at a point, -/
abbrev stg0 (t : Fin cfg0.N) : Memref sig .tc .vmem S1024x1024 .f32 := win0_0.stage (cfg0.slots t 0)
abbrev stg1 (t : Fin cfg0.N) : Memref sig .tc .vmem S1x6x1024 .f32 := win0_1.stage (cfg0.slots t 1)
abbrev stg2 (t : Fin cfg0.N) : Memref sig .tc .vmem S1x1024 .f32 := win0_2.stage (cfg0.slots t 2)
abbrev stg3 (t : Fin cfg0.N) : Memref sig .tc .vmem S1x1024 .f32 := win0_3.stage (cfg0.slots t 3)
abbrev stg4 (t : Fin cfg0.N) : Memref sig .tc .vmem S1024x1024 .f32 := win0_4.stage (cfg0.slots t 4)
/-- the two weights in scratch, the scoped double buffer, -/
abbrev wbuf1 : Memref sig .tc .vmem S1024x4096 .bf16 := Memref.whole cc0_scratch0
abbrev wbuf2 : Memref sig .tc .vmem S4096x1024 .bf16 := Memref.whole cc0_scratch1
abbrev dbuf : Memref sig .tc .vmem S2x1024x1024 .f32 := Memref.whole cc0_scoped0
/-- and the weights in HBM. -/
abbrev hbM0_0 : Memref sig .tc .hbm S2x1024x4096 .f32 := Memref.whole main_arg3
abbrev hbM0_1 : Memref sig .tc .hbm S2x4096x1024 .f32 := Memref.whole main_arg4

/-- A buffer's contents, and it held whole at some: behind a name, so that no rewriting of a goal takes its view apart. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The copies' own semaphores. -/
abbrev copySems : Fin 2 → SemLoc sig := fun j => (![SemLoc.dma 8, SemLoc.dma 9] : Fin 2 → SemLoc sig) j
theorem copySems_own : Pipeline.OwnSemFacts spec0 copySems := by decide

/-- The arrays the kernel copies from. -/
def copied : Finset (Ref sig .tc) := {main_arg3, main_arg4}
theorem copied_sub : copied ⊆ Pipeline.restRefs sig spec0 := by decide

variable (m : (ℓ : Loc nD τ sig) → Buf (Elt F) ℓ)

/-! ## Up to the kernel -/

set_option maxHeartbeats 800000 in
theorem main_launch (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The invariant -/

/-- What the body takes besides its windows, given what it knows of the two scratch buffers: the scratch, the double
    buffer, the generator's register, the two semaphores at zero and the two arrays in HBM. -/
def held (P1 P2 : sProp 𝕄) (c : Dev nD) : sProp 𝕄 :=
  iprop(iprop(P1 ∗ P2 ∗ (∃ d, owns (c : Thread nD τ) dbuf fullShare d)) ∗ (∃ r, prngReg c r) ∗ iprop(semVal ((c : Thread nD τ), SemLoc.dma 8) 0 ∗ semVal ((c : Thread nD τ), SemLoc.dma 9) 0) ∗ iprop(hbPt0 c hbM0_0 (V m c main_arg3) ∗ hbPt0 c hbM0_1 (V m c main_arg4)))

theorem copySems_zero (c : Dev nD) :
    (Pipeline.ownSems0 (Ix := Unit) (Name := ℕ) (U := Pipeline.UD sig nD τ) (Lvl := ℕ) (Val := Elt F) (τ := τ) copySems c : sProp 𝕄)
      = iprop(semVal ((c : Thread nD τ), SemLoc.dma 8) 0 ∗ semVal ((c : Thread nD τ), SemLoc.dma 9) 0) := by
  rw [Pipeline.ownSems0_eq_of_list c copySems [0, 1] (by decide) (by decide)]; rfl

theorem copied_pts (c : Dev nD) :
    (bigSep copied (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- The launch's invariant is `held` at scratch of any contents. -/
theorem launch_held (c : Dev nD) :
    (Pipeline.ΦD copySems spec0 copied (V m) c : sProp 𝕄)
      = held m iprop(∃ d, owns (c : Thread nD τ) wbuf1 fullShare d) iprop(∃ d, owns (c : Thread nD τ) wbuf2 fullShare d) c := by
  unfold held
  rw [Pipeline.ΦD_eq, scopedRest0_eq, copySems_zero, copied_pts]; simp only [wbuf1, wbuf2, dbuf, owns_whole]; try rfl

end Cert.Kernel.Hand

end
-- ==== Proof.Block.lean ====
/-
The values that the body of the last MLP's kernel works with, at any instance of the floats: what a load of the double
buffer reads after the copies into its two slots, the two weight matrices as the scratch holds them from the first grid
point on, and the block that a point writes.
-/
module

public import proofs.«01_k».proof.Proof.Kit

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The double buffer -/

/-- Slot 0 and slot 1 of the double buffer, as the copies name them. -/
abbrev slot0 (M : Memref sig .tc .vmem S2x1024x1024 .f32) : Memref sig .tc .vmem S1024x1024 .f32 :=
  (M.slice (Rect.unit (s := S2x1024x1024) ![0, 0, 0] S1x1024x1024.size inb_S2x1024x1024_S1x1024x1024_0_0_0) (fun _ => rfl)).squeeze S1024x1024 squeezes_S1x1024x1024_S1024x1024
abbrev slot1 (M : Memref sig .tc .vmem S2x1024x1024 .f32) : Memref sig .tc .vmem S1024x1024 .f32 :=
  (M.slice (Rect.unit (s := S2x1024x1024) ![1, 0, 0] S1x1024x1024.size inb_S2x1024x1024_S1x1024x1024_1_0_0) (fun _ => rfl)).squeeze S1024x1024 squeezes_S1x1024x1024_S1024x1024

variable (M : Memref sig .tc .vmem S2x1024x1024 .f32) (f : M.view.ty.Contents (Elt F)) (w : S1024x1024.Idx → Elt F .f32)

/-- A load of a slot after a copy into it reads what was copied, -/
theorem load_slot0 (h : S1x1024x1024.ShapeCasts S1024x1024) :
    shapeCast S1024x1024 (M.view.readAt (Elt F) (Rect.unit (s := S2x1024x1024) ![0, 0, 0] S1x1024x1024.size inb_S2x1024x1024_S1x1024x1024_0_0_0).toLoadRect
      ((slot0 M).view.write (Elt F) f w Finset.univ)) h = w :=
  (slot0 M).view.read_write_univ f w
theorem load_slot1 (h : S1x1024x1024.ShapeCasts S1024x1024) :
    shapeCast S1024x1024 (M.view.readAt (Elt F) (Rect.unit (s := S2x1024x1024) ![1, 0, 0] S1x1024x1024.size inb_S2x1024x1024_S1x1024x1024_1_0_0).toLoadRect
      ((slot1 M).view.write (Elt F) f w Finset.univ)) h = w :=
  (slot1 M).view.read_write_univ f w

/-- and a copy into the other slot changes nothing of it. -/
theorem load_slot0_other :
    M.view.readAt (Elt F) (Rect.unit (s := S2x1024x1024) ![0, 0, 0] S1x1024x1024.size inb_S2x1024x1024_S1x1024x1024_0_0_0).toLoadRect
      ((slot1 M).view.write (Elt F) f w Finset.univ)
      = M.view.readAt (Elt F) (Rect.unit (s := S2x1024x1024) ![0, 0, 0] S1x1024x1024.size inb_S2x1024x1024_S1x1024x1024_0_0_0).toLoadRect f := by
  rw [show (slot1 M).view.write (Elt F) f w Finset.univ = _ from View.write_reshape_univ (v := M.view.slice (Rect.unit (s := S2x1024x1024) ![1, 0, 0] S1x1024x1024.size inb_S2x1024x1024_S1x1024x1024_1_0_0)) _ f w]
  funext x
  refine View.read_slice_write_of_not_mem (Val := Elt F) (v := M.view) _ f _ _ ?_
  rw [Rect.map_emb_univ]
  refine Rect.not_mem_set_of_axis _ _ 0 1 1 rfl rfl rfl (.inl ?_)
  have h : (x 0).val < 1 := (x 0).isLt
  show 0 + 1 * (x 0).val < 1
  omega
theorem load_slot1_other :
    M.view.readAt (Elt F) (Rect.unit (s := S2x1024x1024) ![1, 0, 0] S1x1024x1024.size inb_S2x1024x1024_S1x1024x1024_1_0_0).toLoadRect
      ((slot0 M).view.write (Elt F) f w Finset.univ)
      = M.view.readAt (Elt F) (Rect.unit (s := S2x1024x1024) ![1, 0, 0] S1x1024x1024.size inb_S2x1024x1024_S1x1024x1024_1_0_0).toLoadRect f := by
  rw [show (slot0 M).view.write (Elt F) f w Finset.univ = _ from View.write_reshape_univ (v := M.view.slice (Rect.unit (s := S2x1024x1024) ![0, 0, 0] S1x1024x1024.size inb_S2x1024x1024_S1x1024x1024_0_0_0)) _ f w]
  funext x
  refine View.read_slice_write_of_not_mem (Val := Elt F) (v := M.view) _ f _ _ ?_
  rw [Rect.map_emb_univ]
  refine Rect.not_mem_set_of_axis _ _ 0 0 1 rfl rfl rfl (.inr ?_)
  show 0 + 1 ≤ 1 + 1 * (x 0).val
  omega

/-! ## The weights in scratch -/

/-- The second layer's two weight matrices in the arrays the kernel copies from, -/
def src1 (c : Dev nD) (fh0 : HbBuf0 (F := F) c hbM0_0) : S1024x4096.Idx → Elt F .f32 :=
  (((Memref.whole main_arg3).slice (Rect.unit (s := S2x1024x4096) ![1, 0, 0] S1x1024x4096.size inb_S2x1024x4096_S1x1024x4096_1_0_0) (fun _ => rfl)).squeeze S1024x4096 squeezes_S1x1024x4096_S1024x4096).view.read (Elt F) fh0
def src2 (c : Dev nD) (fh1 : HbBuf0 (F := F) c hbM0_1) : S4096x1024.Idx → Elt F .f32 :=
  (((Memref.whole main_arg4).slice (Rect.unit (s := S2x4096x1024) ![1, 0, 0] S1x4096x1024.size inb_S2x4096x1024_S1x4096x1024_1_0_0) (fun _ => rfl)).squeeze S4096x1024 squeezes_S1x4096x1024_S4096x1024).view.read (Elt F) fh1
/-- and rounded, as the scratch holds them. -/
def w1 (c : Dev nD) (fh0 : HbBuf0 (F := F) c hbM0_0) : FVec F S1024x4096 .bf16 := truncf .bf16 (src1 c fh0) bitsLt_bf16_f32
def w2 (c : Dev nD) (fh1 : HbBuf0 (F := F) c hbM0_1) : FVec F S4096x1024 .bf16 := truncf .bf16 (src2 c fh1) bitsLt_bf16_f32

/-- The part of `X` under a rectangle. -/
abbrev part {S : Shape} {α : Type} (X : S.Idx → α) (r : Rect S) : r.shape.Idx → α := fun x => X (r.emb x)

/-- A load through pieces that all agree with `G` and cover the whole reads `G`. -/
theorem readCov_of_pieces {κ : Kind} {sp : Space} {s : Shape} {e : EltTy} (v : View sig κ sp s e) (G : s.Idx → Elt F e)
    (L : List (View.Piece (Elt F) s e)) (hG : ∀ p ∈ L, ∀ x : p.1.shape.Idx, p.2 x = G (p.1.emb x))
    (hc : ∀ y : s.Idx, ∃ p ∈ L, y ∈ p.1.set) (r : Rect s) : v.readCov L r.toLoadRect = part G r :=
  funext fun x => View.read_writes_apply_of_pieces v _ G L hG _ (hc _)

/-! ## A point's block -/

/-- The block a point writes, from the blocks it reads and the weights in scratch: the kernel's own operations. -/
def outBlk (x0 : Vec F S1024x1024 .f32) (x1 : Vec F S1x6x1024 .f32) (x2 x3 : Vec F S1x1024 .f32) (W1 : FVec F S1024x4096 .bf16) (W2 : FVec F S4096x1024 .bf16) :
    FVec F S1024x1024 .f32 :=
  k0_pay1
    (k0_pay17 (k0_pay13 x0) (k0_pay14 (part x1 (Rect.unit (s := S1x6x1024) ![0, 5, 0] S1x1x1024.size inb_S1x6x1024_S1x1x1024_0_5_0)))
      (k0_pay15 x0 (part x1 (Rect.unit (s := S1x6x1024) ![0, 3, 0] S1x1x1024.size inb_S1x6x1024_S1x1x1024_0_3_0)) (part x1 (Rect.unit (s := S1x6x1024) ![0, 4, 0] S1x1x1024.size inb_S1x6x1024_S1x1x1024_0_4_0)) x2)
      (k0_pay16 x0 (part x1 (Rect.unit (s := S1x6x1024) ![0, 3, 0] S1x1x1024.size inb_S1x6x1024_S1x1x1024_0_3_0)) (part x1 (Rect.unit (s := S1x6x1024) ![0, 4, 0] S1x1x1024.size inb_S1x6x1024_S1x1x1024_0_4_0)) x2
        (part W1 (Rect.unit (s := S1024x4096) ![0, 0] S1024x1024.size inb_S1024x4096_S1024x1024_0_0)))
      (part W2 (Rect.unit (s := S4096x1024) ![0, 0] S1024x1024.size inb_S4096x1024_S1024x1024_0_0))
      (part W1 (Rect.unit (s := S1024x4096) ![0, 1024] S1024x1024.size inb_S1024x4096_S1024x1024_0_1024))
      (part W2 (Rect.unit (s := S4096x1024) ![1024, 0] S1024x1024.size inb_S4096x1024_S1024x1024_1024_0))
      (part W1 (Rect.unit (s := S1024x4096) ![0, 2048] S1024x1024.size inb_S1024x4096_S1024x1024_0_2048))
      (part W2 (Rect.unit (s := S4096x1024) ![2048, 0] S1024x1024.size inb_S4096x1024_S1024x1024_2048_0))
      (part W1 (Rect.unit (s := S1024x4096) ![0, 3072] S1024x1024.size inb_S1024x4096_S1024x1024_0_3072))
      (part W2 (Rect.unit (s := S4096x1024) ![3072, 0] S1024x1024.size inb_S4096x1024_S1024x1024_3072_0)))
    x3

/-- A load of the whole of a whole memref reads its contents; a load of a part, that part. -/
theorem load_part {κ : Kind} {sp : Space} {s : Shape} {e : EltTy} {m : Memref sig κ sp s e} (h : m.IsWhole) (X : s.Idx → Elt F e) (r : Rect s) :
    m.view.readAt (Elt F) r.toLoadRect (h.unread X) = part X r := funext fun x => h.readAt_unread X _ x
theorem part_whole {s : Shape} {α : Type} (X : s.Idx → α) {off : Fin s.rank → ℕ} (h : off = fun _ => 0) (inb : ∀ a, off a + s.size a ≤ s.size a) :
    part X (Rect.unit off s.size inb) = X := by
  subst h; funext x; show X ((Rect.whole s).emb x) = X x; rw [Rect.emb_whole_apply]

end Cert.Kernel.Hand

end
-- ==== Proof.BodyA.lean ====
/-
The kernel's body at the first grid point: it fetches the two weight matrices through the double buffer, rounds them into
scratch, and writes the point's block.
-/
module

public import proofs.«01_k».proof.Proof.Block

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The roundings of the weights, as functions of what is loaded -/

theorem pay2_eq (v : Vec F S1x1024x1024 .f32) :
    k0_pay2 v = truncf .bf16 (shapeCast S1024x1024 v shapeCasts_S1x1024x1024_S1024x1024) bitsLt_bf16_f32 := by
  unfold k0_pay2; simp only [shapeCast_self]
theorem pay4_eq (v : Vec F S1x1024x1024 .f32) :
    k0_pay4 v = truncf .bf16 (shapeCast S1024x1024 v shapeCasts_S1x1024x1024_S1024x1024) bitsLt_bf16_f32 := by
  unfold k0_pay4; simp only [shapeCast_self]
theorem pay5_eq (v : Vec F S1x1024x1024 .f32) :
    k0_pay5 v = truncf .bf16 (shapeCast S1024x1024 v shapeCasts_S1x1024x1024_S1024x1024) bitsLt_bf16_f32 := by
  unfold k0_pay5; simp only [shapeCast_self]
theorem pay6_eq (v : Vec F S1x1024x1024 .f32) :
    k0_pay6 v = truncf .bf16 (shapeCast S1024x1024 v shapeCasts_S1x1024x1024_S1024x1024) bitsLt_bf16_f32 := by
  unfold k0_pay6; simp only [shapeCast_self]
theorem pay10_eq (v : Vec F S1x1024x1024 .f32) :
    k0_pay10 v = truncf .bf16 (shapeCast S1024x1024 v shapeCasts_S1x1024x1024_S1024x1024) bitsLt_bf16_f32 := by
  unfold k0_pay10; simp only [shapeCast_self]
theorem pay11_eq (v : Vec F S1x1024x1024 .f32) :
    k0_pay11 v = truncf .bf16 (shapeCast S1024x1024 v shapeCasts_S1x1024x1024_S1024x1024) bitsLt_bf16_f32 := by
  unfold k0_pay11; simp only [shapeCast_self]
theorem pay12_eq (v : Vec F S1x1024x1024 .f32) :
    k0_pay12 v = truncf .bf16 (shapeCast S1024x1024 v shapeCasts_S1x1024x1024_S1024x1024) bitsLt_bf16_f32 := by
  unfold k0_pay12; simp only [shapeCast_self]
theorem pay3_eq (v : FVec F S1024x1024 .bf16) : k0_pay3 v = v := by unfold k0_pay3; simp only [shapeCast_self]
theorem pay9_eq (v : FVec F S1024x1024 .f32) : k0_pay9 v = truncf .bf16 v bitsLt_bf16_f32 := by unfold k0_pay9; simp only [shapeCast_self]

set_option maxHeartbeats 1000000 in set_option sl_exec.dmaWindow true in set_option sl_exec.dmaWindowSet true in
/-- The body's triple where the weights are fetched (the first point): the scratch ends with the rounded matrices. -/
theorem bodyA (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1024 .f32) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1024x4096 .bf16) (harg8 : arg8.IsWhole) (arg9 : Memref sig .tc .vmem S4096x1024 .bf16) (harg9 : arg9.IsWhole)
    (st : Memref sig .tc .vmem S2x1024x1024 .f32) (hst : st.IsWhole) (hc0 : cond0_0 i)
    (x0 : Vec F S1024x1024 .f32) (x1 : Vec F S1x6x1024 .f32) (x2 x3 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (outBlk x0 x1 x2 x3 (w1 c fh0) (w2 c fh1)) ∗ owns (c : Thread nD τ) arg8 fullShare (w1 c fh0) ∗ owns (c : Thread nD τ) arg9 fullShare (w2 c fh1) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_final i arg1 harg1 arg2 harg2 arg3 harg3 (Memref.whole main_arg3) (Memref.isWhole_whole _) (Memref.whole main_arg4) (Memref.isWhole_whole _) arg6 harg6 arg7 harg7 arg8 harg8 arg9 harg9 st hst cc0_scoped1) K := by
    intro W K
    simp only [cc0_mlp_final_eq_skeleton]; unfold cc0_mlp_final_skel
    simp only [k0_part7_eq_skeleton, k0_part1_eq_skeleton, k0_part2_eq_skeleton, k0_part3_eq_skeleton, k0_part4_eq_skeleton, k0_part5_eq_skeleton, k0_part6_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg6.eq_unread hf3
    sl_exec (disch := first | sl_exact hc0)
    have p8 : ∀ p ∈ bodyA.sl.HS0_4 c st fh0 fs2, ∀ x : p.1.shape.Idx, p.2 x = w1 c fh0 (p.1.emb x) := by
      unfold bodyA.sl.HS0_4
      simp only [List.forall_mem_cons, List.not_mem_nil, false_imp_iff, implies_true, and_true]
      refine ⟨fun x => ?_, fun x => ?_, fun x => ?_, fun x => ?_⟩
      · unfold bodyA.sl.v164_r0 bodyA.sl.r_2
        rw [shapeCast_self, pay6_eq]; unfold bodyA.sl.v159_r0; rw [load_slot1]; rfl
      · rw [pay5_eq]; unfold bodyA.sl.v146_r0; rw [load_slot0_other, load_slot0]; rfl
      · rw [pay4_eq]; unfold bodyA.sl.v126_r0; rw [load_slot1_other, load_slot1]; rfl
      · unfold bodyA.sl.r; rw [pay3_eq, pay2_eq]; unfold bodyA.sl.v106_r0; rw [load_slot0_other, load_slot0]; rfl
    have p9 : ∀ p ∈ bodyA.sl.HS1_4 c st fh0 fh1 fs2, ∀ x : p.1.shape.Idx, p.2 x = w2 c fh1 (p.1.emb x) := by
      unfold bodyA.sl.HS1_4
      simp only [List.forall_mem_cons, List.not_mem_nil, false_imp_iff, implies_true, and_true]
      refine ⟨fun x => ?_, fun x => ?_, fun x => ?_, fun x => ?_⟩
      · rw [pay12_eq]; unfold bodyA.sl.v; rw [load_slot1]; rfl
      · rw [pay11_eq]; unfold bodyA.sl.v226_r0; rw [load_slot0_other, load_slot0]; rfl
      · rw [pay10_eq]; unfold bodyA.sl.v206_r0; rw [load_slot1_other, load_slot1]; rfl
      · rw [pay9_eq]; unfold bodyA.sl.v187_r0 bodyA.sl.v186_r0; rw [load_slot0_other, load_slot0]; rfl
    have c8 : ∀ y : S1024x4096.Idx, ∃ p ∈ bodyA.sl.HS0_4 c st fh0 fs2, y ∈ p.1.set := View.cover_of_tiled _ S1024x1024.size rfl
    have c9 : ∀ y : S4096x1024.Idx, ∃ p ∈ bodyA.sl.HS1_4 c st fh0 fh1 fs2, y ∈ p.1.set := View.cover_of_tiled _ S1024x1024.size rfl
    have e8 : arg8.view.read (Elt F) (arg8.view.writes (Elt F) fs0 (bodyA.sl.HS0_4 c st fh0 fs2)) = w1 c fh0 :=
      funext fun y => View.read_writes_apply_of_pieces arg8.view fs0 _ _ p8 y (c8 y)
    have e9 : arg9.view.read (Elt F) (arg9.view.writes (Elt F) fs1 (bodyA.sl.HS1_4 c st fh0 fh1 fs2)) = w2 c fh1 :=
      funext fun y => View.read_writes_apply_of_pieces arg9.view fs1 _ _ p9 y (c9 y)
    have l8 := fun r => readCov_of_pieces arg8.view (w1 c fh0) _ p8 c8 r
    have l9 := fun r => readCov_of_pieces arg9.view (w2 c fh1) _ p9 c9 r
    have e7 := View.read_writes_full (Val := Elt F) arg7.view f4 (off := ![0, 0]) inb_S1024x1024_S1024x1024_0_0
      (k0_pay1 (bodyA.sl.r_7 c arg1 harg1 arg2 harg2 arg3 harg3 arg8 arg9 st x0 x1 x2 fh0 fh1 fs2)
        (View.readAt (Elt F) arg6.view (Rect.unit (s := S1x1024) ![0, 0] ![1, 1024] inb_S1x1024_S1x1024_0_0).toLoadRect (harg6.unread x3))) []
    have e7' : k0_pay1 (bodyA.sl.r_7 c arg1 harg1 arg2 harg2 arg3 harg3 arg8 arg9 st x0 x1 x2 fh0 fh1 fs2)
        (View.readAt (Elt F) arg6.view (Rect.unit (s := S1x1024) ![0, 0] ![1, 1024] inb_S1x1024_S1x1024_0_0).toLoadRect (harg6.unread x3))
        = outBlk x0 x1 x2 x3 (w1 c fh0) (w2 c fh1) := by
      unfold bodyA.sl.r_7 bodyA.sl.r_3 bodyA.sl.r_4 bodyA.sl.r_5 bodyA.sl.r_6 bodyA.sl.v31 bodyA.sl.v37 bodyA.sl.v39 bodyA.sl.v45 bodyA.sl.v48 bodyA.sl.v54 bodyA.sl.v57 bodyA.sl.v63 outBlk
      simp only [l8, l9, load_part]
      rw [part_whole x0 (off := ![0, 0]) (by decide), part_whole x2 (off := ![0, 0]) (by decide)]
      rw [show part x3 (Rect.unit (s := S1x1024) ![0, 0] ![1, 1024] inb_S1x1024_S1x1024_0_0) = x3 from part_whole x3 (off := ![0, 0]) (by decide) _]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; swap; · iexact H4
      ipureintro; exact e7.trans e7'
    isplitl [HS0]
    · iexists _; isplitr; swap; · iexact HS0
      ipureintro; exact e8
    isplitl [HS1]
    · iexists _; isplitr; swap; · iexact HS1
      ipureintro; exact e9
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.Kernel.Hand

end
-- ==== Proof.BodyB.lean ====
/-
The kernel's body at every later grid point: the weights are in scratch already.
-/
module

public import proofs.«01_k».proof.Proof.BodyA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body's triple where the weights are in scratch (every point but the first). -/
theorem bodyB (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1024 .f32) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1024x4096 .bf16) (harg8 : arg8.IsWhole) (arg9 : Memref sig .tc .vmem S4096x1024 .bf16) (harg9 : arg9.IsWhole)
    (st : Memref sig .tc .vmem S2x1024x1024 .f32) (hst : st.IsWhole) (hc0 : ¬ cond0_0 i)
    (x0 : Vec F S1024x1024 .f32) (x1 : Vec F S1x6x1024 .f32) (x2 x3 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ owns (c : Thread nD τ) arg8 fullShare (w1 c fh0) ∗ owns (c : Thread nD τ) arg9 fullShare (w2 c fh1) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (outBlk x0 x1 x2 x3 (w1 c fh0) (w2 c fh1)) ∗ owns (c : Thread nD τ) arg8 fullShare (w1 c fh0) ∗ owns (c : Thread nD τ) arg9 fullShare (w2 c fh1) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_final i arg1 harg1 arg2 harg2 arg3 harg3 (Memref.whole main_arg3) (Memref.isWhole_whole _) (Memref.whole main_arg4) (Memref.isWhole_whole _) arg6 harg6 arg7 harg7 arg8 harg8 arg9 harg9 st hst cc0_scoped1) K := by
    intro W K
    simp only [cc0_mlp_final_eq_skeleton]; unfold cc0_mlp_final_skel
    simp only [k0_part7_eq_skeleton, k0_part1_eq_skeleton, k0_part2_eq_skeleton, k0_part3_eq_skeleton, k0_part4_eq_skeleton, k0_part5_eq_skeleton, k0_part6_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg6.eq_unread hf3
    obtain rfl := harg8.eq_unread hs0; obtain rfl := harg9.eq_unread hs1
    sl_exec (disch := first | sl_exact hc0)
    have e7 := View.read_writes_full (Val := Elt F) arg7.view f4 (off := ![0, 0]) inb_S1024x1024_S1024x1024_0_0
      (k0_pay1 (bodyB.sl.r_4 c arg1 harg1 arg2 harg2 arg3 harg3 arg8 harg8 arg9 harg9 x0 x1 x2 fh0 fh1)
        (View.readAt (Elt F) arg6.view (Rect.unit (s := S1x1024) ![0, 0] ![1, 1024] inb_S1x1024_S1x1024_0_0).toLoadRect (harg6.unread x3))) []
    have e7' : k0_pay1 (bodyB.sl.r_4 c arg1 harg1 arg2 harg2 arg3 harg3 arg8 harg8 arg9 harg9 x0 x1 x2 fh0 fh1)
        (View.readAt (Elt F) arg6.view (Rect.unit (s := S1x1024) ![0, 0] ![1, 1024] inb_S1x1024_S1x1024_0_0).toLoadRect (harg6.unread x3))
        = outBlk x0 x1 x2 x3 (w1 c fh0) (w2 c fh1) := by
      unfold bodyB.sl.r_4 bodyB.sl.r bodyB.sl.r_1 bodyB.sl.r_2 bodyB.sl.r_3 outBlk
      simp only [load_part]
      rw [part_whole x0 (off := ![0, 0]) (by decide), part_whole x2 (off := ![0, 0]) (by decide)]
      rw [show part x3 (Rect.unit (s := S1x1024) ![0, 0] ![1, 1024] inb_S1x1024_S1x1024_0_0) = x3 from part_whole x3 (off := ![0, 0]) (by decide) _]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; swap; · iexact H4
      ipureintro; exact e7.trans e7'
    isplitl [HS0]
    · iexists _; isplitr; swap; · iexact HS0
      ipureintro; exact harg8.read_unread _
    isplitl [HS1]
    · iexists _; isplitr; swap; · iexact HS1
      ipureintro; exact harg9.read_unread _
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.Kernel.Hand

end
-- ==== Proof.Run.lean ====
/-
The run of the last MLP's call, at any instance of the floats: every point writes its block, the weights stay in scratch
from the first point on, and so the result is block by block `outBlk` of the arguments' blocks.
-/
module

public import proofs.«01_k».proof.Proof.BodyB

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The weights in scratch, and the block written at a point. -/
abbrev W1 (c : Dev nD) : Vec F S1024x4096 .bf16 := w1 c (V m c main_arg3)
abbrev W2 (c : Dev nD) : Vec F S4096x1024 .bf16 := w2 c (V m c main_arg4)
def blockAt (c : Dev nD) (t : Fin cfg0.N) : Vec F S1024x1024 .f32 :=
  outBlk (iblk m c 0 t) (iblk m c 1 t) (iblk m c 2 t) (iblk m c 3 t) (W1 m c) (W2 m c)

/-- The invariant before the first point, -/
def inv0 (c : Dev nD) : sProp 𝕄 := held m iprop(∃ d, owns (c : Thread nD τ) wbuf1 fullShare d) iprop(∃ d, owns (c : Thread nD τ) wbuf2 fullShare d) c
/-- and from then on: the weights are in scratch. -/
def inv1 (c : Dev nD) : sProp 𝕄 := held m iprop(owns (c : Thread nD τ) wbuf1 fullShare (W1 m c)) iprop(owns (c : Thread nD τ) wbuf2 fullShare (W2 m c)) c

theorem inv1_inv0 (c : Dev nD) : inv1 m c ⊢ inv0 m c := by
  unfold inv0 inv1 held
  iintro ⟨⟨HS0, HS1, HS2⟩, Hg, Hq, Hh⟩
  isplitl [HS0 HS1 HS2]
  · isplitl [HS0]; · iexists _; iexact HS0
    isplitl [HS1]; · iexists _; iexact HS1
    iexact HS2
  isplitl [Hg]; · iexact Hg
  isplitl [Hq]; · iexact Hq
  iexact Hh

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
  Φ t := if t.val = 0 then inv0 m c else inv1 m c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockAt m c t := by dsimp only [dats]

/-! An input's staging buffer holds its block at every point. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)

/-! ## The body at a point -/

/-- What the body is called with at point `t`, window by window, and what it returns. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

theorem inv_first (c : Dev nD) (t : Fin cfg0.N) (h : t.val % 16 = 0) : (dats m 0 c).Φ t.castSucc = inv0 m c := by
  refine (show (dats m 0 c).Φ t.castSucc = if t.val = 0 then inv0 m c else inv1 m c from rfl).trans (if_pos ?_)
  have ht : t.val < 16 := Nat.lt_of_lt_of_eq t.isLt N_0; omega
theorem inv_later (c : Dev nD) (t : Fin cfg0.N) (h : ¬ t.val % 16 = 0) : (dats m 0 c).Φ t.castSucc = inv1 m c := by
  refine (show (dats m 0 c).Φ t.castSucc = if t.val = 0 then inv0 m c else inv1 m c from rfl).trans (if_neg ?_)
  have ht : t.val < 16 := Nat.lt_of_lt_of_eq t.isLt N_0; omega
theorem inv_next (c : Dev nD) (t : Fin cfg0.N) : (dats m 0 c).Φ t.succ = inv1 m c :=
  (show (dats m 0 c).Φ t.succ = if t.val + 1 = 0 then inv0 m c else inv1 m c from rfl).trans (if_neg (by omega))

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [inv_next, after_0, after_1, after_2, after_3, after_4]
  unfold Dat.owesAt Pipeline.owesWithin
  rw [show (dats m 0 c).owed t.castSucc = 0 from rfl, show (dats m 0 c).owed t.succ = 0 from rfl]
  by_cases h0 : t.val % 16 = 0
  · rw [inv_first m c t h0]; unfold inv0 inv1 held
    iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩⟩
    iapply ((bodyA c (grid0.coords t) _ _ _ _ _ _ _ _ _ _ _ _ _ _ _ _ ((first_iff t).mpr h0) (iblk m c 0 t) (iblk m c 1 t) (iblk m c 2 t) (iblk m c 3 t) (V m c main_arg3) (V m c main_arg4)) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, HS0, HS1, HS2, Hq0, Hq1, Hh0, Hh1, ⟨%W', HW'⟩⟩
    isplitl [HS0 HS1 HS2 Hg Hq0 Hq1 Hh0 Hh1]
    · isplitl [HS0 HS1 HS2]
      · isplitl [HS0]; · iexact HS0
        isplitl [HS1]; · iexact HS1
        iexact HS2
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · rw [inv_later m c t h0]; unfold inv1 held
    iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩⟩
    iapply ((bodyB c (grid0.coords t) _ _ _ _ _ _ _ _ _ _ _ _ _ _ _ _ (fun h => h0 ((first_iff t).mp h)) (iblk m c 0 t) (iblk m c 1 t) (iblk m c 2 t) (iblk m c 3 t) (V m c main_arg3) (V m c main_arg4)) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, HS0, HS1, HS2, Hq0, Hq1, Hh0, Hh1, ⟨%W', HW'⟩⟩
    isplitl [HS0 HS1 HS2 Hg Hq0 Hq1 Hh0 Hh1]
    · isplitl [HS0 HS1 HS2]
      · isplitl [HS0]; · iexact HS0
        isplitl [HS1]; · iexact HS1
        iexact HS2
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem body_obl (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- Every execution ends, each array at what the proof data say of it after the last point, every other buffer as the
    kernel found it, and every semaphore at zero. -/
theorem run_launch : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 copySems defs₀ Variants.none copySems_own copied copied_sub m ρ main
    (hbody := fun c => (body_obl m c).loose) (hshare := fun c => (dats m 0 c).share_full fun _ => rfl)
    (howed := fun _ _ => rfl) (V := V m) (hmain := main_launch m Variants.none) (hA := dats_A m)
    (hin := fun c => by rw [launch_held]; exact .rfl)
    (hout := fun c => by rw [launch_held]; exact inv1_inv0 m c)
    (hQ' := fun _ h => h)

/-- The same, with every argument named: each is as launched. -/
theorem run_frame : θ_run defs (onTc (τ := τ) (main (F := F))) ⟨m, fun _ => 0, ρ⟩ (fun r => (Pipeline.FramePost cfgs (dats m) 0 (V m) r ∧ r.2.sem = fun _ => 0) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => ⟨h, fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩⟩) (run_launch m ρ)

end Cert.Kernel.Hand

end
-- ==== Proof.Spec.lean ====
/-
One row through the MLP, as sums over the extended reals: what the kernel and the reference both compute.
-/
module

public import Idealize.ShloMosaic.Lib.Pointwise
public import Idealize.ShloMosaic.Lib.Pipeline.ValueKit

@[expose] public section

noncomputable section

namespace Cert.Mlp

open Idealize.ShloMosaic

/-- The reciprocal of a row's root mean square. -/
def rinv (x : Fin 1024 → EReal) : EReal :=
  Ideal.rsqrt (Ideal.div (∑ k, x k * x k) (Ideal.ofBits .f32 1149239296#32) + Ideal.ofBits .f32 897988541#32)

/-- The row normed, scaled by the norm's weights and modulated. -/
def modulated (x g sc sh : Fin 1024 → EReal) (k : Fin 1024) : EReal := x k * rinv x * g k * (1 + sc k) + sh k

/-- The hidden layer before its square. -/
def preact (y : Fin 1024 → EReal) (U : Fin 1024 → Fin 4096 → EReal) (f : Fin 4096) : EReal := max (∑ k, y k * U k f) 0

/-- The gated output added to the row. -/
def out (x gt : Fin 1024 → EReal) (h : Fin 4096 → EReal) (D : Fin 4096 → Fin 1024 → EReal) (q : Fin 1024) : EReal :=
  x q + gt q * ∑ f, h f * h f * D f q

/-- The row normed. -/
def normed (x g : Fin 1024 → EReal) (q : Fin 1024) : EReal := x q * rinv x * g q

/-- A sum over the hidden width, in the kernel's four chunks. -/
theorem sum_chunks {M : Type} [AddCommMonoid M] (g : Fin 4096 → M) :
    ∑ f, g f = ((∑ k : Fin 1024, g ⟨k.val, by omega⟩) + ∑ k : Fin 1024, g ⟨1024 + k.val, by omega⟩) + (∑ k : Fin 1024, g ⟨2048 + k.val, by omega⟩)
      + ∑ k : Fin 1024, g ⟨3072 + k.val, by omega⟩ := by
  rw [show ∑ f, g f = ∑ f : Fin (1024 + 1024 + 1024 + 1024), g f from rfl, Fin.sum_univ_add, Fin.sum_univ_add, Fin.sum_univ_add]
  rfl

/-! ## A row of the layer, from the arguments -/

variable (x : Shape.Idx ⟨3, ![4, 4096, 1024]⟩ → EReal) (mod : Shape.Idx ⟨2, ![4, 6144]⟩ → EReal) (g gf : Shape.Idx ⟨1, ![1024]⟩ → EReal)
  (U : Shape.Idx ⟨3, ![2, 1024, 4096]⟩ → EReal) (D : Shape.Idx ⟨3, ![2, 4096, 1024]⟩ → EReal)

/-- Row `s` of sequence `b` after layer `l`'s MLP: the modulation's chunks 3, 4 and 5 are its shift, scale and gate. -/
def mlpRow (l : Fin 2) (b : Fin 4) (s : Fin 4096) : Fin 1024 → EReal :=
  out (fun k => x (ix3 b s k)) (fun k => mod (ix2 b ⟨5120 + k.val, by omega⟩))
    (preact (modulated (fun k => x (ix3 b s k)) (fun k => g (ix1 k)) (fun k => mod (ix2 b ⟨4096 + k.val, by omega⟩)) (fun k => mod (ix2 b ⟨3072 + k.val, by omega⟩)))
      (fun k f => U (ix3 l k f)))
    (fun f q => D (ix3 l f q))

/-- The last layer's MLP and the last norm, the sequences' rows one after another. -/
def finalOut (r : Fin 16384) (q : Fin 1024) : EReal :=
  normed (mlpRow x mod g U D 1 ⟨r.val / 4096, by omega⟩ ⟨r.val % 4096, by omega⟩) (fun k => gf (ix1 k)) q

/-- Layer 0's MLP, the sequences' rows one after another. -/
def midOut (r : Fin 16384) (q : Fin 1024) : EReal :=
  mlpRow x mod g U D 0 ⟨r.val / 4096, by omega⟩ ⟨r.val % 4096, by omega⟩ q

end Cert.Mlp

end
-- ==== Proof.BlockValue.lean ====
/-
The block that a point writes, read at an index at the ideal instance.
-/
module

public import proofs.«01_k».proof.Proof.Block
public import proofs.«01_k».proof.Proof.Spec

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Mlp

/-! ## The body's values at an index -/

theorem pay1_at (v : FVec Ideal S1024x1024 .f32) (w : Vec Ideal S1x1024 .f32) (r q : Fin 1024) :
    k0_pay1 v w (ix2 r q) = normed (fun k => v (ix2 r k)) (fun k => w (ix2 0 k)) q := by
  pointwise [k0_pay1, normed, rinv]

theorem pay15_at (x : Vec Ideal S1024x1024 .f32) (a b : Vec Ideal S1x1x1024 .f32) (w : Vec Ideal S1x1024 .f32) (r q : Fin 1024) :
    k0_pay15 x a b w (ix2 r q) = modulated (fun k => x (ix2 r k)) (fun k => w (ix2 0 k)) (fun k => b (ix3 0 0 k)) (fun k => a (ix3 0 0 k)) q := by
  pointwise [k0_pay15, k0_pay13, modulated, rinv]
  simp only [mul_assoc]

theorem pay16_at (x : Vec Ideal S1024x1024 .f32) (a b : Vec Ideal S1x1x1024 .f32) (w : Vec Ideal S1x1024 .f32) (v : Vec Ideal S1024x1024 .bf16) (r q : Fin 1024) :
    k0_pay16 x a b w v (ix2 r q) = max (∑ k, k0_pay15 x a b w (ix2 r k) * v (ix2 k q)) 0 := by
  pointwise [k0_pay16]

theorem pay17_at (x v : FVec Ideal S1024x1024 .f32) (g : FVec Ideal S1x1024 .f32) (y u1 u2 u3 d0 d1 d2 d3 : FVec Ideal S1024x1024 .bf16) (r q : Fin 1024) :
    k0_pay17 x g y v d0 u1 d1 u2 d2 u3 d3 (ix2 r q)
      = x (ix2 r q) + g (ix2 0 q) * ((∑ f, v (ix2 r f) * v (ix2 r f) * d0 (ix2 f q))
          + (∑ f, max (∑ k, y (ix2 r k) * u1 (ix2 k f)) 0 * max (∑ k, y (ix2 r k) * u1 (ix2 k f)) 0 * d1 (ix2 f q))
          + (∑ f, max (∑ k, y (ix2 r k) * u2 (ix2 k f)) 0 * max (∑ k, y (ix2 r k) * u2 (ix2 k f)) 0 * d2 (ix2 f q))
          + ∑ f, max (∑ k, y (ix2 r k) * u3 (ix2 k f)) 0 * max (∑ k, y (ix2 r k) * u3 (ix2 k f)) 0 * d3 (ix2 f q)) := by
  pointwise [k0_pay17]

/-! ## The parts of the weights and of the modulation -/

variable {α : Type}

/-- A chunk of the first weight: columns `b` to `b + 1023`. -/
theorem partU_at (X : S1024x4096.Idx → α) (b : ℕ) (inb) (hb : b ≤ 3072) (k f : Fin 1024) :
    part X (Rect.unit (s := S1024x4096) ![0, b] S1024x1024.size inb) (ix2 k f) = X (ix2 k ⟨b + f.val, by omega⟩) :=
  congrArg X (funext fun i => Fin.ext (by
    match i with
    | ⟨0, _⟩ => exact (congrArg (0 + ·) (Nat.one_mul k.val)).trans (Nat.zero_add _)
    | ⟨1, _⟩ => exact congrArg (b + ·) (Nat.one_mul f.val)))

/-- A chunk of the second: rows `a` to `a + 1023`. -/
theorem partD_at (X : S4096x1024.Idx → α) (a : ℕ) (inb) (ha : a ≤ 3072) (f q : Fin 1024) :
    part X (Rect.unit (s := S4096x1024) ![a, 0] S1024x1024.size inb) (ix2 f q) = X (ix2 ⟨a + f.val, by omega⟩ q) :=
  congrArg X (funext fun i => Fin.ext (by
    match i with
    | ⟨0, _⟩ => exact congrArg (a + ·) (Nat.one_mul f.val)
    | ⟨1, _⟩ => exact (congrArg (0 + ·) (Nat.one_mul q.val)).trans (Nat.zero_add _)))

/-- A row of the modulation. -/
theorem partMod_at (X : S1x6x1024.Idx → α) (j : ℕ) (inb) (q : Fin 1024) (hj : j < 6) :
    part X (Rect.unit (s := S1x6x1024) ![0, j, 0] S1x1x1024.size inb) (ix3 0 0 q) = X (ix3 0 ⟨j, hj⟩ q) :=
  congrArg X (funext fun i => Fin.ext (by
    match i with
    | ⟨0, _⟩ => rfl
    | ⟨1, _⟩ => exact congrArg (j + ·) (Nat.one_mul 0)
    | ⟨2, _⟩ => exact (congrArg (0 + ·) (Nat.one_mul q.val)).trans (Nat.zero_add _)))

/-! ## The block at an index -/

theorem pay14_at (g : Vec Ideal S1x1x1024 .f32) (q : Fin 1024) : k0_pay14 g (ix2 0 q) = g (ix3 0 0 q) := by
  pointwise [k0_pay14]

theorem pay13_at (x : Vec Ideal S1024x1024 .f32) (r q : Fin 1024) : k0_pay13 x (ix2 r q) = x (ix2 r q) := by
  pointwise [k0_pay13]

variable (x0 : Vec Ideal S1024x1024 .f32) (x1 : Vec Ideal S1x6x1024 .f32) (x2 x3 : Vec Ideal S1x1024 .f32) (W1 : FVec Ideal S1024x4096 .bf16) (W2 : FVec Ideal S4096x1024 .bf16)

/-- The hidden layer of a block's row, -/
abbrev hidRow (r : Fin 1024) : Fin 4096 → EReal :=
  preact (modulated (fun k => x0 (ix2 r k)) (fun k => x2 (ix2 0 k)) (fun k => x1 (ix3 0 4 k)) (fun k => x1 (ix3 0 3 k))) (fun k f => W1 (ix2 k f))
/-- and the row before the last norm. -/
abbrev outRow (r : Fin 1024) : Fin 1024 → EReal :=
  out (fun k => x0 (ix2 r k)) (fun k => x1 (ix3 0 5 k)) (hidRow x0 x1 x2 W1 r) (fun f q => W2 (ix2 f q))

theorem outBlk_at (r q : Fin 1024) :
    outBlk x0 x1 x2 x3 W1 W2 (ix2 r q) = normed (outRow x0 x1 x2 W1 W2 r) (fun k => x3 (ix2 0 k)) q := by
  unfold outBlk
  have m3 : ∀ k, part x1 (Rect.unit (s := S1x6x1024) ![0, 3, 0] S1x1x1024.size inb_S1x6x1024_S1x1x1024_0_3_0) (ix3 0 0 k) = x1 (ix3 0 3 k) := fun k => partMod_at x1 3 _ k (by decide)
  generalize part x1 (Rect.unit (s := S1x6x1024) ![0, 3, 0] S1x1x1024.size inb_S1x6x1024_S1x1x1024_0_3_0) = M3 at m3 ⊢
  have m4 : ∀ k, part x1 (Rect.unit (s := S1x6x1024) ![0, 4, 0] S1x1x1024.size inb_S1x6x1024_S1x1x1024_0_4_0) (ix3 0 0 k) = x1 (ix3 0 4 k) := fun k => partMod_at x1 4 _ k (by decide)
  generalize part x1 (Rect.unit (s := S1x6x1024) ![0, 4, 0] S1x1x1024.size inb_S1x6x1024_S1x1x1024_0_4_0) = M4 at m4 ⊢
  have m5 : ∀ k, part x1 (Rect.unit (s := S1x6x1024) ![0, 5, 0] S1x1x1024.size inb_S1x6x1024_S1x1x1024_0_5_0) (ix3 0 0 k) = x1 (ix3 0 5 k) := fun k => partMod_at x1 5 _ k (by decide)
  generalize part x1 (Rect.unit (s := S1x6x1024) ![0, 5, 0] S1x1x1024.size inb_S1x6x1024_S1x1x1024_0_5_0) = M5 at m5 ⊢
  have u0 : ∀ k f : Fin 1024, part W1 (Rect.unit (s := S1024x4096) ![0, 0] S1024x1024.size inb_S1024x4096_S1024x1024_0_0) (ix2 k f) = W1 (ix2 k ⟨0 + f.val, by omega⟩) := partU_at W1 0 _ (by decide)
  have d0 : ∀ f q : Fin 1024, part W2 (Rect.unit (s := S4096x1024) ![0, 0] S1024x1024.size inb_S4096x1024_S1024x1024_0_0) (ix2 f q) = W2 (ix2 ⟨0 + f.val, by omega⟩ q) := partD_at W2 0 _ (by decide)
  generalize part W1 (Rect.unit (s := S1024x4096) ![0, 0] S1024x1024.size inb_S1024x4096_S1024x1024_0_0) = U0 at u0 ⊢
  generalize part W2 (Rect.unit (s := S4096x1024) ![0, 0] S1024x1024.size inb_S4096x1024_S1024x1024_0_0) = D0 at d0 ⊢
  have u1 : ∀ k f : Fin 1024, part W1 (Rect.unit (s := S1024x4096) ![0, 1024] S1024x1024.size inb_S1024x4096_S1024x1024_0_1024) (ix2 k f) = W1 (ix2 k ⟨1024 + f.val, by omega⟩) := partU_at W1 1024 _ (by decide)
  have d1 : ∀ f q : Fin 1024, part W2 (Rect.unit (s := S4096x1024) ![1024, 0] S1024x1024.size inb_S4096x1024_S1024x1024_1024_0) (ix2 f q) = W2 (ix2 ⟨1024 + f.val, by omega⟩ q) := partD_at W2 1024 _ (by decide)
  generalize part W1 (Rect.unit (s := S1024x4096) ![0, 1024] S1024x1024.size inb_S1024x4096_S1024x1024_0_1024) = U1 at u1 ⊢
  generalize part W2 (Rect.unit (s := S4096x1024) ![1024, 0] S1024x1024.size inb_S4096x1024_S1024x1024_1024_0) = D1 at d1 ⊢
  have u2 : ∀ k f : Fin 1024, part W1 (Rect.unit (s := S1024x4096) ![0, 2048] S1024x1024.size inb_S1024x4096_S1024x1024_0_2048) (ix2 k f) = W1 (ix2 k ⟨2048 + f.val, by omega⟩) := partU_at W1 2048 _ (by decide)
  have d2 : ∀ f q : Fin 1024, part W2 (Rect.unit (s := S4096x1024) ![2048, 0] S1024x1024.size inb_S4096x1024_S1024x1024_2048_0) (ix2 f q) = W2 (ix2 ⟨2048 + f.val, by omega⟩ q) := partD_at W2 2048 _ (by decide)
  generalize part W1 (Rect.unit (s := S1024x4096) ![0, 2048] S1024x1024.size inb_S1024x4096_S1024x1024_0_2048) = U2 at u2 ⊢
  generalize part W2 (Rect.unit (s := S4096x1024) ![2048, 0] S1024x1024.size inb_S4096x1024_S1024x1024_2048_0) = D2 at d2 ⊢
  have u3 : ∀ k f : Fin 1024, part W1 (Rect.unit (s := S1024x4096) ![0, 3072] S1024x1024.size inb_S1024x4096_S1024x1024_0_3072) (ix2 k f) = W1 (ix2 k ⟨3072 + f.val, by omega⟩) := partU_at W1 3072 _ (by decide)
  have d3 : ∀ f q : Fin 1024, part W2 (Rect.unit (s := S4096x1024) ![3072, 0] S1024x1024.size inb_S4096x1024_S1024x1024_3072_0) (ix2 f q) = W2 (ix2 ⟨3072 + f.val, by omega⟩ q) := partD_at W2 3072 _ (by decide)
  generalize part W1 (Rect.unit (s := S1024x4096) ![0, 3072] S1024x1024.size inb_S1024x4096_S1024x1024_0_3072) = U3 at u3 ⊢
  generalize part W2 (Rect.unit (s := S4096x1024) ![3072, 0] S1024x1024.size inb_S4096x1024_S1024x1024_3072_0) = D3 at d3 ⊢
  rw [pay1_at]
  refine congrArg (fun v => normed v (fun k => x3 (ix2 0 k)) q) (funext fun q => ?_)
  rw [pay17_at, outRow, out, sum_chunks]
  simp only [pay13_at, pay14_at, pay16_at, pay15_at, m3, m4, m5, u0, u1, u2, u3, d0, d1, d2, d3, Nat.zero_add]
  rfl

end Cert.Kernel.Hand

end
-- ==== Proof.Value.lean ====
/-
The result of the last MLP's call at the ideal instance, in the arguments.
-/
module

public import proofs.«01_k».proof.Proof.Run
public import proofs.«01_k».proof.Proof.BlockValue
public import Idealize.ShloMosaic.Lib.Claim

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Mlp

/-- The windows' blocks at a point: a row tile of the rows, the tile's sequence of the modulation. -/
theorem indices : ∀ t : Fin grid0.N, win0_0.index t = ![t.val, 0] ∧ win0_1.index t = ![t.val / 4, 0, 0] ∧ win0_2.index t = ![0, 0] ∧ win0_3.index t = ![0, 0] ∧ win0_4.index t = ![t.val, 0] := by
  decide +kernel

theorem drop1_at (X : Vec Ideal S1x1024x4096 .f32) (h : S1x1024x4096.ShapeCasts S1024x4096) (k : Fin 1024) (f : Fin 4096) : shapeCast S1024x4096 X h (ix2 k f) = X (ix3 0 k f) := by
  pointwise
theorem drop2_at (X : Vec Ideal S1x4096x1024 .f32) (h : S1x4096x1024.ShapeCasts S4096x1024) (f : Fin 4096) (q : Fin 1024) : shapeCast S4096x1024 X h (ix2 f q) = X (ix3 0 f q) := by
  pointwise

/-- The weights in scratch at an index. -/
theorem w1_at (c : Dev nD) (fh : HbBuf0 (F := Ideal) c hbM0_0) (k : Fin 1024) (f : Fin 4096) : w1 c fh (ix2 k f) = (fh : S2x1024x4096.Idx → EReal) (ix3 1 k f) := by
  show shapeCast S1024x4096 (part (fh : S2x1024x4096.Idx → EReal) (Rect.unit (s := S2x1024x4096) ![1, 0, 0] S1x1024x4096.size inb_S2x1024x4096_S1x1024x4096_1_0_0)) (show S1x1024x4096.ShapeCasts S1024x4096 by decide) (ix2 k f) = _
  refine (drop1_at _ _ k f).trans (congrArg (fh : S2x1024x4096.Idx → EReal) (funext fun i => Fin.ext ?_))
  match i with
  | ⟨0, _⟩ => rfl
  | ⟨1, _⟩ => exact (congrArg (0 + ·) (Nat.one_mul k.val)).trans (Nat.zero_add _)
  | ⟨2, _⟩ => exact (congrArg (0 + ·) (Nat.one_mul f.val)).trans (Nat.zero_add _)
theorem w2_at (c : Dev nD) (fh : HbBuf0 (F := Ideal) c hbM0_1) (f : Fin 4096) (q : Fin 1024) : w2 c fh (ix2 f q) = (fh : S2x4096x1024.Idx → EReal) (ix3 1 f q) := by
  show shapeCast S4096x1024 (part (fh : S2x4096x1024.Idx → EReal) (Rect.unit (s := S2x4096x1024) ![1, 0, 0] S1x4096x1024.size inb_S2x4096x1024_S1x4096x1024_1_0_0)) (show S1x4096x1024.ShapeCasts S4096x1024 by decide) (ix2 f q) = _
  refine (drop2_at _ _ f q).trans (congrArg (fh : S2x4096x1024.Idx → EReal) (funext fun i => Fin.ext ?_))
  match i with
  | ⟨0, _⟩ => rfl
  | ⟨1, _⟩ => exact (congrArg (0 + ·) (Nat.one_mul f.val)).trans (Nat.zero_add _)
  | ⟨2, _⟩ => exact (congrArg (0 + ·) (Nat.one_mul q.val)).trans (Nat.zero_add _)

variable (m : (ℓ : Loc nD τ sig) → Buf (Elt Ideal) ℓ)

theorem iblk0_at (c : Dev nD) (t : Fin cfg0.N) (r k : Fin 1024) :
    (iblk m c 0 t : S1024x1024.Idx → EReal) (ix2 r k) = (m ((c : Thread nD τ).loc main_arg0) : S4x4096x1024.Idx → EReal) (ix3 ⟨(t.val * 1024 + r.val) / 4096, by have := t.isLt; have : cfg0.N = 16 := N_0; omega⟩ ⟨(t.val * 1024 + r.val) % 4096, by omega⟩ k) := by
  blk_simp [iblk, indices t]
  entry_read
  pointwise
  blk_ext [indices t]
theorem iblk1_at (c : Dev nD) (t : Fin cfg0.N) (j : Fin 6) (k : Fin 1024) :
    (iblk m c 1 t : S1x6x1024.Idx → EReal) (ix3 0 j k) = (m ((c : Thread nD τ).loc main_arg1) : S4x6144.Idx → EReal) (ix2 ⟨t.val / 4, by have := t.isLt; have : cfg0.N = 16 := N_0; omega⟩ ⟨j.val * 1024 + k.val, by omega⟩) := by
  blk_simp [iblk, indices t]
  entry_read
  pointwise
  blk_ext [indices t]
theorem iblk2_at (c : Dev nD) (t : Fin cfg0.N) (k : Fin 1024) :
    (iblk m c 2 t : S1x1024.Idx → EReal) (ix2 0 k) = (m ((c : Thread nD τ).loc main_arg2) : S1024.Idx → EReal) (ix1 k) := by
  blk_simp [iblk, indices t]
  entry_read
  pointwise
  blk_ext [indices t]
theorem iblk3_at (c : Dev nD) (t : Fin cfg0.N) (k : Fin 1024) :
    (iblk m c 3 t : S1x1024.Idx → EReal) (ix2 0 k) = (m ((c : Thread nD τ).loc main_arg5) : S1024.Idx → EReal) (ix1 k) := by
  blk_simp [iblk, indices t]
  entry_read
  pointwise
  blk_ext [indices t]

/-- The result in the arguments. -/
def result (c : Dev nD) : S16384x1024.Idx → EReal := fun i =>
  finalOut (m ((c : Thread nD τ).loc main_arg0)) (m ((c : Thread nD τ).loc main_arg1)) (m ((c : Thread nD τ).loc main_arg2)) (m ((c : Thread nD τ).loc main_arg5))
    (m ((c : Thread nD τ).loc main_arg3)) (m ((c : Thread nD τ).loc main_arg4)) (i 0) (i 1)

theorem blockAt_at (c : Dev nD) (t : Fin cfg0.N) (r q : Fin 1024) (h : t.val * 1024 + r.val < 16384) :
    blockAt m c t (ix2 r q) = result m c (ix2 ⟨t.val * 1024 + r.val, h⟩ q) := by
  have hb : (⟨t.val / 4, by omega⟩ : Fin 4) = ⟨(t.val * 1024 + r.val) / 4096, by omega⟩ := Fin.ext (by show t.val / 4 = (t.val * 1024 + r.val) / 4096; omega)
  show outBlk _ _ _ _ (w1 c (V m c main_arg3)) (w2 c (V m c main_arg4)) (ix2 r q) = finalOut _ _ _ _ _ _ ⟨t.val * 1024 + r.val, h⟩ q
  rw [V_main_arg3, V_main_arg4, outBlk_at]
  unfold finalOut mlpRow
  simp only [outRow, hidRow, iblk0_at, iblk1_at, iblk2_at, iblk3_at, w1_at, w2_at, hb]
  rfl

theorem final_result (c : Dev nD) : (dats m 0 c).arrAt 4 cfg0.N = result m c := by
  refine (dats m 0 c).arrAt_eq_of_covers 4 _ (by decide +kernel) fun t hf y => ?_
  rw [after_4]
  have ht : t.val < 16 := Nat.lt_of_lt_of_eq t.isLt N_0
  have hy : (y 0).val < 1024 := (y 0).isLt
  refine (congrArg (blockAt m c t) (eq_ix2 (y : S1024x1024.Idx))).trans ((blockAt_at m c t (y 0) (y 1) (by omega)).trans (congrArg (result m c) ?_))
  blk_ext [indices t]

/-! ## The run to the result -/

variable (ρ : Dev nD → PrngReg)

theorem run_result : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 4).trans (final_result m c), (h.2 c)⟩) (run_frame m ρ)

end Cert.Kernel.Hand

end
-- ==== Proof.RefValue.lean ====
/-
The reference's value at the ideal instance, read at an index: stage by stage, so that no row is read twice.
-/
module

public import proofs.«01_k».proof.Proof.Spec
public import proofs.«01_k».proof.Proof.Gen.ReferenceIdeal.Run

@[expose] public section

set_option maxRecDepth 16384

noncomputable section

namespace Cert.ReferenceIdeal.Hand

open Cert.ReferenceIdeal Cert.ReferenceIdeal.Gen Cert.ReferenceIdeal.Value Cert.Mlp
open Idealize.ShloMosaic Idealize.ShloMosaic.TcCoe Idealize.SL.Sem Idealize.ShloMosaic.StableHlo

variable (x : FVec Ideal S4x4096x1024 .f32) (mod : FVec Ideal S4x6144 .f32) (g gf : FVec Ideal S1024 .f32) (w1 : FVec Ideal S2x1024x4096 .f32) (w2 : FVec Ideal S2x4096x1024 .f32)

/-- The reciprocal root mean square of every row, -/
def rmsOf (x : FVec Ideal S4x4096x1024 .f32) : FVec Ideal S4x4096x1024 .f32 :=
  broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))
/-- a row of weights on every row, -/
def onRows (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)
/-- the rows normed and modulated, -/
def modOf : FVec Ideal S4x4096x1024 .f32 :=
  addf (mulf (mulf (mulf x (rmsOf x)) (onRows g))
      (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] mod slices_S4x6144_S4x1024_0_4096)))))
    (broadcastInDim S4x4096x1024 ![0, 1, 2] bcast_S4x1x1024_S4x4096x1024_0_1_2 (broadcastInDim S4x1x1024 ![0, 2] bcast_S4x1024_S4x1x1024_0_2 (extractStridedSlice S4x1024 ![0, 3072] mod slices_S4x6144_S4x1024_0_3072)))
/-- the hidden layer, -/
def hidOf (y : FVec Ideal S4x4096x1024 .f32) : FVec Ideal S4x4096x4096 .f32 :=
  maximumf (Host.dotGeneral (F := Ideal) dot_S4x4096x1024_S1024x4096_S4x4096x4096_2_0_01_1_n_n none y (shapeCast _ (extractStridedSlice S1x1024x4096 ![1, 0, 0] w1 slices_S2x1024x4096_S1x1024x4096_1_0_0) shapeCasts_S1x1024x4096_S1024x4096 : FVec Ideal S1024x4096 .f32)) (broadcastInDim S4x4096x4096 ![] bcast_S_S4x4096x4096 (constant S_ .f32 0x00000000#32))
/-- the gated output added, -/
def outOf (h : FVec Ideal S4x4096x4096 .f32) : FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] mod slices_S4x6144_S4x1024_0_5120)))
    (Host.dotGeneral (F := Ideal) dot_S4x4096x4096_S4096x1024_S4x4096x1024_2_0_01_1_n_n none (mulf h h) (shapeCast _ (extractStridedSlice S1x4096x1024 ![1, 0, 0] w2 slices_S2x4096x1024_S1x4096x1024_1_0_0) shapeCasts_S1x4096x1024_S4096x1024 : FVec Ideal S4096x1024 .f32)))
/-- and the last norm. -/
def lastOf (o : FVec Ideal S4x4096x1024 .f32) : FVec Ideal S16384x1024 .f32 :=
  shapeCast _ (mulf (mulf o (rmsOf o)) (onRows gf)) shapeCasts_S4x4096x1024_S16384x1024

theorem res_eq (m : (ℓ : Loc nD τ sig) → Buf (Elt Ideal) ℓ) (c : Dev nD) :
    res_main_v52 m c = lastOf (m ((c.tc : Thread nD τ).loc main_arg5)) (outOf (m ((c.tc : Thread nD τ).loc main_arg0)) (m ((c.tc : Thread nD τ).loc main_arg1)) (m ((c.tc : Thread nD τ).loc main_arg4))
      (hidOf (m ((c.tc : Thread nD τ).loc main_arg3)) (modOf (m ((c.tc : Thread nD τ).loc main_arg0)) (m ((c.tc : Thread nD τ).loc main_arg1)) (m ((c.tc : Thread nD τ).loc main_arg2))))) := rfl

theorem rmsOf_at (b : Fin 4) (s : Fin 4096) (k : Fin 1024) : rmsOf x (ix3 b s k) = rinv (fun k => x (ix3 b s k)) := by
  pointwise [rmsOf, rinv]
theorem onRows_at (b : Fin 4) (s : Fin 4096) (k : Fin 1024) : onRows g (ix3 b s k) = g (ix1 k) := by
  pointwise [onRows]
theorem modOf_at (b : Fin 4) (s : Fin 4096) (k : Fin 1024) : modOf x mod g (ix3 b s k)
    = modulated (fun k => x (ix3 b s k)) (fun k => g (ix1 k)) (fun k => mod (ix2 b ⟨4096 + k.val, by omega⟩)) (fun k => mod (ix2 b ⟨3072 + k.val, by omega⟩)) k := by
  pointwise [modOf, modulated]
  simp only [rmsOf_at, onRows_at]
theorem hidOf_at (y : FVec Ideal S4x4096x1024 .f32) (b : Fin 4) (s : Fin 4096) (f : Fin 4096) : hidOf w1 y (ix3 b s f) = preact (fun k => y (ix3 b s k)) (fun k f => w1 (ix3 1 k f)) f := by
  pointwise [hidOf, preact]
theorem outOf_at (h : FVec Ideal S4x4096x4096 .f32) (b : Fin 4) (s : Fin 4096) (q : Fin 1024) : outOf x mod w2 h (ix3 b s q)
    = out (fun k => x (ix3 b s k)) (fun k => mod (ix2 b ⟨5120 + k.val, by omega⟩)) (fun f => h (ix3 b s f)) (fun f q => w2 (ix3 1 f q)) q := by
  pointwise [outOf, out]
theorem lastOf_at (o : FVec Ideal S4x4096x1024 .f32) (r : Fin 16384) (q : Fin 1024) : lastOf gf o (ix2 r q)
    = normed (fun k => o (ix3 ⟨r.val / 4096, by omega⟩ ⟨r.val % 4096, by omega⟩ k)) (fun k => gf (ix1 k)) q := by
  pointwise [lastOf, normed]
  simp only [rmsOf_at, onRows_at]

/-- The reference's result at an index. -/
theorem res_at (m : (ℓ : Loc nD τ sig) → Buf (Elt Ideal) ℓ) (c : Dev nD) (r : Fin 16384) (q : Fin 1024) :
    res_main_v52 m c (ix2 r q) = finalOut (m ((c.tc : Thread nD τ).loc main_arg0)) (m ((c.tc : Thread nD τ).loc main_arg1)) (m ((c.tc : Thread nD τ).loc main_arg2)) (m ((c.tc : Thread nD τ).loc main_arg5))
      (m ((c.tc : Thread nD τ).loc main_arg3)) (m ((c.tc : Thread nD τ).loc main_arg4)) r q := by
  rw [res_eq, lastOf_at]
  unfold finalOut mlpRow
  simp only [outOf_at, hidOf_at, modOf_at]

end Cert.ReferenceIdeal.Hand

end
-- ==== Proof.Kit2.lean ====
/-
The launch of layer 0's MLP call, at any instance of the floats: @main up to the kernel, the buffers the kernel works
with, and the pipeline's invariant conjunct by conjunct. (The kernel copies the weights itself, from arrays in HBM and on
semaphores of its own, so the algebra is the one with a share for the copies in flight.)
-/
module

public import proofs.«01_k».proof.Proof.Gen.Kernel2.Frame
public import proofs.«01_k».proof.Proof.Gen.Kernel2.Skeleton
public import Idealize.ShloMosaic.Lib.WholeRead
public import Idealize.ShloMosaic.Lib.VecWindow

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The buffers -/

/-- The first grid point's test. -/
abbrev cond0_0 (i : grid0.Coords) : Prop := (Scalar.cmpi .ne (Scalar.extui (Scalar.cmpi .eq (BitVec.ofNat 32 (i 0).val) 0#32)) 0#32) = 1#1

theorem first_iff : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The windows' staging buffers at a point, -/
abbrev stg0 (t : Fin cfg0.N) : Memref sig .tc .vmem S1024x1024 .f32 := win0_0.stage (cfg0.slots t 0)
abbrev stg1 (t : Fin cfg0.N) : Memref sig .tc .vmem S1x6x1024 .f32 := win0_1.stage (cfg0.slots t 1)
abbrev stg2 (t : Fin cfg0.N) : Memref sig .tc .vmem S1x1024 .f32 := win0_2.stage (cfg0.slots t 2)
abbrev stg3 (t : Fin cfg0.N) : Memref sig .tc .vmem S1x1024 .f32 := win0_3.stage (cfg0.slots t 3)
abbrev stg4 (t : Fin cfg0.N) : Memref sig .tc .vmem S1024x1024 .f32 := win0_4.stage (cfg0.slots t 4)
/-- the two weights in scratch, the scoped double buffer, -/
abbrev wbuf1 : Memref sig .tc .vmem S1024x4096 .bf16 := Memref.whole cc0_scratch0
abbrev wbuf2 : Memref sig .tc .vmem S4096x1024 .bf16 := Memref.whole cc0_scratch1
abbrev dbuf : Memref sig .tc .vmem S2x1024x1024 .f32 := Memref.whole cc0_scoped0
/-- and the weights in HBM. -/
abbrev hbM0_0 : Memref sig .tc .hbm S2x1024x4096 .f32 := Memref.whole main_arg3
abbrev hbM0_1 : Memref sig .tc .hbm S2x4096x1024 .f32 := Memref.whole main_arg4

/-- A buffer's contents, and it held whole at some: behind a name, so that no rewriting of a goal takes its view apart. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The copies' own semaphores. -/
abbrev copySems : Fin 2 → SemLoc sig := fun j => (![SemLoc.dma 8, SemLoc.dma 9] : Fin 2 → SemLoc sig) j
theorem copySems_own : Pipeline.OwnSemFacts spec0 copySems := by decide

/-- The arrays the kernel copies from. -/
def copied : Finset (Ref sig .tc) := {main_arg3, main_arg4}
theorem copied_sub : copied ⊆ Pipeline.restRefs sig spec0 := by decide

variable (m : (ℓ : Loc nD τ sig) → Buf (Elt F) ℓ)

/-! ## Up to the kernel -/

set_option maxHeartbeats 800000 in
theorem main_launch (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The invariant -/

/-- What the body takes besides its windows, given what it knows of the two scratch buffers: the scratch, the double
    buffer, the generator's register, the two semaphores at zero and the two arrays in HBM. -/
def held (P1 P2 : sProp 𝕄) (c : Dev nD) : sProp 𝕄 :=
  iprop(iprop(P1 ∗ P2 ∗ (∃ d, owns (c : Thread nD τ) dbuf fullShare d)) ∗ (∃ r, prngReg c r) ∗ iprop(semVal ((c : Thread nD τ), SemLoc.dma 8) 0 ∗ semVal ((c : Thread nD τ), SemLoc.dma 9) 0) ∗ iprop(hbPt0 c hbM0_0 (V m c main_arg3) ∗ hbPt0 c hbM0_1 (V m c main_arg4)))

theorem copySems_zero (c : Dev nD) :
    (Pipeline.ownSems0 (Ix := Unit) (Name := ℕ) (U := Pipeline.UD sig nD τ) (Lvl := ℕ) (Val := Elt F) (τ := τ) copySems c : sProp 𝕄)
      = iprop(semVal ((c : Thread nD τ), SemLoc.dma 8) 0 ∗ semVal ((c : Thread nD τ), SemLoc.dma 9) 0) := by
  rw [Pipeline.ownSems0_eq_of_list c copySems [0, 1] (by decide) (by decide)]; rfl

theorem copied_pts (c : Dev nD) :
    (bigSep copied (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- The launch's invariant is `held` at scratch of any contents. -/
theorem launch_held (c : Dev nD) :
    (Pipeline.ΦD copySems spec0 copied (V m) c : sProp 𝕄)
      = held m iprop(∃ d, owns (c : Thread nD τ) wbuf1 fullShare d) iprop(∃ d, owns (c : Thread nD τ) wbuf2 fullShare d) c := by
  unfold held
  rw [Pipeline.ΦD_eq, scopedRest0_eq, copySems_zero, copied_pts]; simp only [wbuf1, wbuf2, dbuf, owns_whole]; try rfl

end Cert.Kernel2.Hand

end
-- ==== Proof.Block2.lean ====
/-
The values that the body of layer 0's MLP kernel works with, at any instance of the floats: what a load of the double
buffer reads after the copies into its two slots, the two weight matrices as the scratch holds them from the first grid
point on, and the block that a point writes.
-/
module

public import proofs.«01_k».proof.Proof.Kit2

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The double buffer -/

/-- Slot 0 and slot 1 of the double buffer, as the copies name them. -/
abbrev slot0 (M : Memref sig .tc .vmem S2x1024x1024 .f32) : Memref sig .tc .vmem S1024x1024 .f32 :=
  (M.slice (Rect.unit (s := S2x1024x1024) ![0, 0, 0] S1x1024x1024.size inb_S2x1024x1024_S1x1024x1024_0_0_0) (fun _ => rfl)).squeeze S1024x1024 squeezes_S1x1024x1024_S1024x1024
abbrev slot1 (M : Memref sig .tc .vmem S2x1024x1024 .f32) : Memref sig .tc .vmem S1024x1024 .f32 :=
  (M.slice (Rect.unit (s := S2x1024x1024) ![1, 0, 0] S1x1024x1024.size inb_S2x1024x1024_S1x1024x1024_1_0_0) (fun _ => rfl)).squeeze S1024x1024 squeezes_S1x1024x1024_S1024x1024

variable (M : Memref sig .tc .vmem S2x1024x1024 .f32) (f : M.view.ty.Contents (Elt F)) (w : S1024x1024.Idx → Elt F .f32)

/-- A load of a slot after a copy into it reads what was copied, -/
theorem load_slot0 (h : S1x1024x1024.ShapeCasts S1024x1024) :
    shapeCast S1024x1024 (M.view.readAt (Elt F) (Rect.unit (s := S2x1024x1024) ![0, 0, 0] S1x1024x1024.size inb_S2x1024x1024_S1x1024x1024_0_0_0).toLoadRect
      ((slot0 M).view.write (Elt F) f w Finset.univ)) h = w :=
  (slot0 M).view.read_write_univ f w
theorem load_slot1 (h : S1x1024x1024.ShapeCasts S1024x1024) :
    shapeCast S1024x1024 (M.view.readAt (Elt F) (Rect.unit (s := S2x1024x1024) ![1, 0, 0] S1x1024x1024.size inb_S2x1024x1024_S1x1024x1024_1_0_0).toLoadRect
      ((slot1 M).view.write (Elt F) f w Finset.univ)) h = w :=
  (slot1 M).view.read_write_univ f w

/-- and a copy into the other slot changes nothing of it. -/
theorem load_slot0_other :
    M.view.readAt (Elt F) (Rect.unit (s := S2x1024x1024) ![0, 0, 0] S1x1024x1024.size inb_S2x1024x1024_S1x1024x1024_0_0_0).toLoadRect
      ((slot1 M).view.write (Elt F) f w Finset.univ)
      = M.view.readAt (Elt F) (Rect.unit (s := S2x1024x1024) ![0, 0, 0] S1x1024x1024.size inb_S2x1024x1024_S1x1024x1024_0_0_0).toLoadRect f := by
  rw [show (slot1 M).view.write (Elt F) f w Finset.univ = _ from View.write_reshape_univ (v := M.view.slice (Rect.unit (s := S2x1024x1024) ![1, 0, 0] S1x1024x1024.size inb_S2x1024x1024_S1x1024x1024_1_0_0)) _ f w]
  funext x
  refine View.read_slice_write_of_not_mem (Val := Elt F) (v := M.view) _ f _ _ ?_
  rw [Rect.map_emb_univ]
  refine Rect.not_mem_set_of_axis _ _ 0 1 1 rfl rfl rfl (.inl ?_)
  have h : (x 0).val < 1 := (x 0).isLt
  show 0 + 1 * (x 0).val < 1
  omega
theorem load_slot1_other :
    M.view.readAt (Elt F) (Rect.unit (s := S2x1024x1024) ![1, 0, 0] S1x1024x1024.size inb_S2x1024x1024_S1x1024x1024_1_0_0).toLoadRect
      ((slot0 M).view.write (Elt F) f w Finset.univ)
      = M.view.readAt (Elt F) (Rect.unit (s := S2x1024x1024) ![1, 0, 0] S1x1024x1024.size inb_S2x1024x1024_S1x1024x1024_1_0_0).toLoadRect f := by
  rw [show (slot0 M).view.write (Elt F) f w Finset.univ = _ from View.write_reshape_univ (v := M.view.slice (Rect.unit (s := S2x1024x1024) ![0, 0, 0] S1x1024x1024.size inb_S2x1024x1024_S1x1024x1024_0_0_0)) _ f w]
  funext x
  refine View.read_slice_write_of_not_mem (Val := Elt F) (v := M.view) _ f _ _ ?_
  rw [Rect.map_emb_univ]
  refine Rect.not_mem_set_of_axis _ _ 0 0 1 rfl rfl rfl (.inr ?_)
  show 0 + 1 ≤ 1 + 1 * (x 0).val
  omega

/-! ## The weights in scratch -/

/-- Layer 0's two weight matrices in the arrays the kernel copies from, -/
def src1 (c : Dev nD) (fh0 : HbBuf0 (F := F) c hbM0_0) : S1024x4096.Idx → Elt F .f32 :=
  (((Memref.whole main_arg3).slice (Rect.unit (s := S2x1024x4096) ![0, 0, 0] S1x1024x4096.size inb_S2x1024x4096_S1x1024x4096_0_0_0) (fun _ => rfl)).squeeze S1024x4096 squeezes_S1x1024x4096_S1024x4096).view.read (Elt F) fh0
def src2 (c : Dev nD) (fh1 : HbBuf0 (F := F) c hbM0_1) : S4096x1024.Idx → Elt F .f32 :=
  (((Memref.whole main_arg4).slice (Rect.unit (s := S2x4096x1024) ![0, 0, 0] S1x4096x1024.size inb_S2x4096x1024_S1x4096x1024_0_0_0) (fun _ => rfl)).squeeze S4096x1024 squeezes_S1x4096x1024_S4096x1024).view.read (Elt F) fh1
/-- and rounded, as the scratch holds them. -/
def w1 (c : Dev nD) (fh0 : HbBuf0 (F := F) c hbM0_0) : FVec F S1024x4096 .bf16 := truncf .bf16 (src1 c fh0) bitsLt_bf16_f32
def w2 (c : Dev nD) (fh1 : HbBuf0 (F := F) c hbM0_1) : FVec F S4096x1024 .bf16 := truncf .bf16 (src2 c fh1) bitsLt_bf16_f32

/-- The part of `X` under a rectangle. -/
abbrev part {S : Shape} {α : Type} (X : S.Idx → α) (r : Rect S) : r.shape.Idx → α := fun x => X (r.emb x)

/-- A load through pieces that all agree with `G` and cover the whole reads `G`. -/
theorem readCov_of_pieces {κ : Kind} {sp : Space} {s : Shape} {e : EltTy} (v : View sig κ sp s e) (G : s.Idx → Elt F e)
    (L : List (View.Piece (Elt F) s e)) (hG : ∀ p ∈ L, ∀ x : p.1.shape.Idx, p.2 x = G (p.1.emb x))
    (hc : ∀ y : s.Idx, ∃ p ∈ L, y ∈ p.1.set) (r : Rect s) : v.readCov L r.toLoadRect = part G r :=
  funext fun x => View.read_writes_apply_of_pieces v _ G L hG _ (hc _)

/-! ## A point's block -/

/-- The block a point writes, from the blocks it reads and the weights in scratch: the kernel's own operations. -/
def outBlk (x0 : Vec F S1024x1024 .f32) (x1 : Vec F S1x6x1024 .f32) (x2 : Vec F S1x1024 .f32) (W1 : FVec F S1024x4096 .bf16) (W2 : FVec F S4096x1024 .bf16) :
    FVec F S1024x1024 .f32 :=
  k0_pay16 (k0_pay12 x0) (k0_pay13 (part x1 (Rect.unit (s := S1x6x1024) ![0, 5, 0] S1x1x1024.size inb_S1x6x1024_S1x1x1024_0_5_0)))
    (k0_pay14 x0 (part x1 (Rect.unit (s := S1x6x1024) ![0, 3, 0] S1x1x1024.size inb_S1x6x1024_S1x1x1024_0_3_0)) (part x1 (Rect.unit (s := S1x6x1024) ![0, 4, 0] S1x1x1024.size inb_S1x6x1024_S1x1x1024_0_4_0)) x2)
    (k0_pay15 x0 (part x1 (Rect.unit (s := S1x6x1024) ![0, 3, 0] S1x1x1024.size inb_S1x6x1024_S1x1x1024_0_3_0)) (part x1 (Rect.unit (s := S1x6x1024) ![0, 4, 0] S1x1x1024.size inb_S1x6x1024_S1x1x1024_0_4_0)) x2
      (part W1 (Rect.unit (s := S1024x4096) ![0, 0] S1024x1024.size inb_S1024x4096_S1024x1024_0_0)))
    (part W2 (Rect.unit (s := S4096x1024) ![0, 0] S1024x1024.size inb_S4096x1024_S1024x1024_0_0))
    (part W1 (Rect.unit (s := S1024x4096) ![0, 1024] S1024x1024.size inb_S1024x4096_S1024x1024_0_1024))
    (part W2 (Rect.unit (s := S4096x1024) ![1024, 0] S1024x1024.size inb_S4096x1024_S1024x1024_1024_0))
    (part W1 (Rect.unit (s := S1024x4096) ![0, 2048] S1024x1024.size inb_S1024x4096_S1024x1024_0_2048))
    (part W2 (Rect.unit (s := S4096x1024) ![2048, 0] S1024x1024.size inb_S4096x1024_S1024x1024_2048_0))
    (part W1 (Rect.unit (s := S1024x4096) ![0, 3072] S1024x1024.size inb_S1024x4096_S1024x1024_0_3072))
    (part W2 (Rect.unit (s := S4096x1024) ![3072, 0] S1024x1024.size inb_S4096x1024_S1024x1024_3072_0))

/-- A load of the whole of a whole memref reads its contents; a load of a part, that part. -/
theorem load_part {κ : Kind} {sp : Space} {s : Shape} {e : EltTy} {m : Memref sig κ sp s e} (h : m.IsWhole) (X : s.Idx → Elt F e) (r : Rect s) :
    m.view.readAt (Elt F) r.toLoadRect (h.unread X) = part X r := funext fun x => h.readAt_unread X _ x
theorem part_whole {s : Shape} {α : Type} (X : s.Idx → α) {off : Fin s.rank → ℕ} (h : off = fun _ => 0) (inb : ∀ a, off a + s.size a ≤ s.size a) :
    part X (Rect.unit off s.size inb) = X := by
  subst h; funext x; show X ((Rect.whole s).emb x) = X x; rw [Rect.emb_whole_apply]

end Cert.Kernel2.Hand

end
-- ==== Proof.BodyA2.lean ====
/-
The kernel's body at the first grid point: it fetches the two weight matrices through the double buffer, rounds them into
scratch, and writes the point's block.
-/
module

public import proofs.«01_k».proof.Proof.Block2

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The roundings of the weights, as functions of what is loaded -/

theorem pay1_eq (v : Vec F S1x1024x1024 .f32) :
    k0_pay1 v = truncf .bf16 (shapeCast S1024x1024 v shapeCasts_S1x1024x1024_S1024x1024) bitsLt_bf16_f32 := by
  unfold k0_pay1; simp only [shapeCast_self]
theorem pay3_eq (v : Vec F S1x1024x1024 .f32) :
    k0_pay3 v = truncf .bf16 (shapeCast S1024x1024 v shapeCasts_S1x1024x1024_S1024x1024) bitsLt_bf16_f32 := by
  unfold k0_pay3; simp only [shapeCast_self]
theorem pay4_eq (v : Vec F S1x1024x1024 .f32) :
    k0_pay4 v = truncf .bf16 (shapeCast S1024x1024 v shapeCasts_S1x1024x1024_S1024x1024) bitsLt_bf16_f32 := by
  unfold k0_pay4; simp only [shapeCast_self]
theorem pay5_eq (v : Vec F S1x1024x1024 .f32) :
    k0_pay5 v = truncf .bf16 (shapeCast S1024x1024 v shapeCasts_S1x1024x1024_S1024x1024) bitsLt_bf16_f32 := by
  unfold k0_pay5; simp only [shapeCast_self]
theorem pay9_eq (v : Vec F S1x1024x1024 .f32) :
    k0_pay9 v = truncf .bf16 (shapeCast S1024x1024 v shapeCasts_S1x1024x1024_S1024x1024) bitsLt_bf16_f32 := by
  unfold k0_pay9; simp only [shapeCast_self]
theorem pay10_eq (v : Vec F S1x1024x1024 .f32) :
    k0_pay10 v = truncf .bf16 (shapeCast S1024x1024 v shapeCasts_S1x1024x1024_S1024x1024) bitsLt_bf16_f32 := by
  unfold k0_pay10; simp only [shapeCast_self]
theorem pay11_eq (v : Vec F S1x1024x1024 .f32) :
    k0_pay11 v = truncf .bf16 (shapeCast S1024x1024 v shapeCasts_S1x1024x1024_S1024x1024) bitsLt_bf16_f32 := by
  unfold k0_pay11; simp only [shapeCast_self]
theorem pay2_eq (v : FVec F S1024x1024 .bf16) : k0_pay2 v = v := by unfold k0_pay2; simp only [shapeCast_self]
theorem pay8_eq (v : FVec F S1024x1024 .f32) : k0_pay8 v = truncf .bf16 v bitsLt_bf16_f32 := by unfold k0_pay8; simp only [shapeCast_self]

set_option maxHeartbeats 1000000 in set_option sl_exec.dmaWindow true in set_option sl_exec.dmaWindowSet true in
/-- The body's triple where the weights are fetched (the first point): the scratch ends with the rounded matrices. -/
theorem bodyA (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1024 .f32) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1024x4096 .bf16) (harg8 : arg8.IsWhole) (arg9 : Memref sig .tc .vmem S4096x1024 .bf16) (harg9 : arg9.IsWhole)
    (st : Memref sig .tc .vmem S2x1024x1024 .f32) (hst : st.IsWhole) (hc0 : cond0_0 i)
    (x0 : Vec F S1024x1024 .f32) (x1 : Vec F S1x6x1024 .f32) (x2 x3 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (outBlk x0 x1 x2 (w1 c fh0) (w2 c fh1)) ∗ owns (c : Thread nD τ) arg8 fullShare (w1 c fh0) ∗ owns (c : Thread nD τ) arg9 fullShare (w2 c fh1) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_layer i arg1 harg1 arg2 harg2 arg3 harg3 (Memref.whole main_arg3) (Memref.isWhole_whole _) (Memref.whole main_arg4) (Memref.isWhole_whole _) arg6 harg6 arg7 harg7 arg8 harg8 arg9 harg9 st hst cc0_scoped1) K := by
    intro W K
    simp only [cc0_mlp_layer_eq_skeleton]; unfold cc0_mlp_layer_skel
    simp only [k0_part7_eq_skeleton, k0_part1_eq_skeleton, k0_part2_eq_skeleton, k0_part3_eq_skeleton, k0_part4_eq_skeleton, k0_part5_eq_skeleton, k0_part6_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg6.eq_unread hf3
    sl_exec (disch := first | sl_exact hc0)
    have p8 : ∀ p ∈ bodyA.sl.HS0_4 c st fh0 fs2, ∀ x : p.1.shape.Idx, p.2 x = w1 c fh0 (p.1.emb x) := by
      unfold bodyA.sl.HS0_4
      simp only [List.forall_mem_cons, List.not_mem_nil, false_imp_iff, implies_true, and_true]
      refine ⟨fun x => ?_, fun x => ?_, fun x => ?_, fun x => ?_⟩
      · unfold bodyA.sl.v150_r0 bodyA.sl.r_2
        rw [shapeCast_self, pay5_eq]; unfold bodyA.sl.v145_r0; rw [load_slot1]; rfl
      · rw [pay4_eq]; unfold bodyA.sl.v132_r0; rw [load_slot0_other, load_slot0]; rfl
      · rw [pay3_eq]; unfold bodyA.sl.v112_r0; rw [load_slot1_other, load_slot1]; rfl
      · unfold bodyA.sl.r; rw [pay2_eq, pay1_eq]; unfold bodyA.sl.v92_r0; rw [load_slot0_other, load_slot0]; rfl
    have p9 : ∀ p ∈ bodyA.sl.HS1_4 c st fh0 fh1 fs2, ∀ x : p.1.shape.Idx, p.2 x = w2 c fh1 (p.1.emb x) := by
      unfold bodyA.sl.HS1_4
      simp only [List.forall_mem_cons, List.not_mem_nil, false_imp_iff, implies_true, and_true]
      refine ⟨fun x => ?_, fun x => ?_, fun x => ?_, fun x => ?_⟩
      · rw [pay11_eq]; unfold bodyA.sl.v; rw [load_slot1]; rfl
      · rw [pay10_eq]; unfold bodyA.sl.v212_r0; rw [load_slot0_other, load_slot0]; rfl
      · rw [pay9_eq]; unfold bodyA.sl.v192_r0; rw [load_slot1_other, load_slot1]; rfl
      · rw [pay8_eq]; unfold bodyA.sl.v173_r0 bodyA.sl.v172_r0; rw [load_slot0_other, load_slot0]; rfl
    have c8 : ∀ y : S1024x4096.Idx, ∃ p ∈ bodyA.sl.HS0_4 c st fh0 fs2, y ∈ p.1.set := View.cover_of_tiled _ S1024x1024.size rfl
    have c9 : ∀ y : S4096x1024.Idx, ∃ p ∈ bodyA.sl.HS1_4 c st fh0 fh1 fs2, y ∈ p.1.set := View.cover_of_tiled _ S1024x1024.size rfl
    have e8 : arg8.view.read (Elt F) (arg8.view.writes (Elt F) fs0 (bodyA.sl.HS0_4 c st fh0 fs2)) = w1 c fh0 :=
      funext fun y => View.read_writes_apply_of_pieces arg8.view fs0 _ _ p8 y (c8 y)
    have e9 : arg9.view.read (Elt F) (arg9.view.writes (Elt F) fs1 (bodyA.sl.HS1_4 c st fh0 fh1 fs2)) = w2 c fh1 :=
      funext fun y => View.read_writes_apply_of_pieces arg9.view fs1 _ _ p9 y (c9 y)
    have l8 := fun r => readCov_of_pieces arg8.view (w1 c fh0) _ p8 c8 r
    have l9 := fun r => readCov_of_pieces arg9.view (w2 c fh1) _ p9 c9 r
    have e7 := View.read_writes_full (Val := Elt F) arg7.view f4 (off := ![0, 0]) inb_S1024x1024_S1024x1024_0_0
      (bodyA.sl.r_7 c arg1 harg1 arg2 harg2 arg3 harg3 arg8 arg9 st x0 x1 x2 fh0 fh1 fs2) []
    have e7' : bodyA.sl.r_7 c arg1 harg1 arg2 harg2 arg3 harg3 arg8 arg9 st x0 x1 x2 fh0 fh1 fs2
        = outBlk x0 x1 x2 (w1 c fh0) (w2 c fh1) := by
      unfold bodyA.sl.r_7 bodyA.sl.r_3 bodyA.sl.r_4 bodyA.sl.r_5 bodyA.sl.r_6 bodyA.sl.v31 bodyA.sl.v37 bodyA.sl.v39 bodyA.sl.v45 bodyA.sl.v48 bodyA.sl.v54 bodyA.sl.v57 bodyA.sl.v63 outBlk
      simp only [l8, l9, load_part]
      rw [part_whole x0 (off := ![0, 0]) (by decide), part_whole x2 (off := ![0, 0]) (by decide)]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; swap; · iexact H4
      ipureintro; exact e7.trans e7'
    isplitl [HS0]
    · iexists _; isplitr; swap; · iexact HS0
      ipureintro; exact e8
    isplitl [HS1]
    · iexists _; isplitr; swap; · iexact HS1
      ipureintro; exact e9
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.Kernel2.Hand

end
-- ==== Proof.BodyB2.lean ====
/-
The kernel's body at every later grid point: the weights are in scratch already.
-/
module

public import proofs.«01_k».proof.Proof.BodyA2

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- The body's triple where the weights are in scratch (every point but the first). -/
theorem bodyB (c : Dev nD) (i : grid0.Coords) (arg1 : Memref sig .tc .vmem S1024x1024 .f32) (harg1 : arg1.IsWhole) (arg2 : Memref sig .tc .vmem S1x6x1024 .f32) (harg2 : arg2.IsWhole) (arg3 : Memref sig .tc .vmem S1x1024 .f32) (harg3 : arg3.IsWhole)
    (arg6 : Memref sig .tc .vmem S1x1024 .f32) (harg6 : arg6.IsWhole) (arg7 : Memref sig .tc .vmem S1024x1024 .f32) (harg7 : arg7.IsWhole) (arg8 : Memref sig .tc .vmem S1024x4096 .bf16) (harg8 : arg8.IsWhole) (arg9 : Memref sig .tc .vmem S4096x1024 .bf16) (harg9 : arg9.IsWhole)
    (st : Memref sig .tc .vmem S2x1024x1024 .f32) (hst : st.IsWhole) (hc0 : ¬ cond0_0 i)
    (x0 : Vec F S1024x1024 .f32) (x1 : Vec F S1x6x1024 .f32) (x2 x3 : Vec F S1x1024 .f32) (fh0 : HbBuf0 (F := F) c hbM0_0) (fh1 : HbBuf0 (F := F) c hbM0_1) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg6 fullShare x3 ∗ (∃ d, owns (c : Thread nD τ) arg7 fullShare d) ∗ owns (c : Thread nD τ) arg8 fullShare (w1 c fh0) ∗ owns (c : Thread nD τ) arg9 fullShare (w2 c fh1) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg6 fullShare x3 ∗ owns (c : Thread nD τ) arg7 fullShare (outBlk x0 x1 x2 (w1 c fh0) (w2 c fh1)) ∗ owns (c : Thread nD τ) arg8 fullShare (w1 c fh0) ∗ owns (c : Thread nD τ) arg9 fullShare (w2 c fh1) ∗ (∃ d, owns (c : Thread nD τ) st fullShare d) ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_mlp_layer i arg1 harg1 arg2 harg2 arg3 harg3 (Memref.whole main_arg3) (Memref.isWhole_whole _) (Memref.whole main_arg4) (Memref.isWhole_whole _) arg6 harg6 arg7 harg7 arg8 harg8 arg9 harg9 st hst cc0_scoped1) K := by
    intro W K
    simp only [cc0_mlp_layer_eq_skeleton]; unfold cc0_mlp_layer_skel
    simp only [k0_part7_eq_skeleton, k0_part1_eq_skeleton, k0_part2_eq_skeleton, k0_part3_eq_skeleton, k0_part4_eq_skeleton, k0_part5_eq_skeleton, k0_part6_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%ds2, %fs2, -, HS2⟩, Hq0, Hq1, Hh0, Hh1, HW, Hk⟩
    obtain rfl := harg1.eq_unread hf0; obtain rfl := harg2.eq_unread hf1; obtain rfl := harg3.eq_unread hf2; obtain rfl := harg6.eq_unread hf3
    obtain rfl := harg8.eq_unread hs0; obtain rfl := harg9.eq_unread hs1
    sl_exec (disch := first | sl_exact hc0)
    have e7 := View.read_writes_full (Val := Elt F) arg7.view f4 (off := ![0, 0]) inb_S1024x1024_S1024x1024_0_0
      (bodyB.sl.r_4 c arg1 harg1 arg2 harg2 arg3 harg3 arg8 harg8 arg9 harg9 x0 x1 x2 fh0 fh1) []
    have e7' : bodyB.sl.r_4 c arg1 harg1 arg2 harg2 arg3 harg3 arg8 harg8 arg9 harg9 x0 x1 x2 fh0 fh1
        = outBlk x0 x1 x2 (w1 c fh0) (w2 c fh1) := by
      unfold bodyB.sl.r_4 bodyB.sl.r bodyB.sl.r_1 bodyB.sl.r_2 bodyB.sl.r_3 outBlk
      simp only [load_part]
      rw [part_whole x0 (off := ![0, 0]) (by decide), part_whole x2 (off := ![0, 0]) (by decide)]
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg6.read_unread _
      iexact H3
    isplitl [H4]
    · iexists _; isplitr; swap; · iexact H4
      ipureintro; exact e7.trans e7'
    isplitl [HS0]
    · iexists _; isplitr; swap; · iexact HS0
      ipureintro; exact harg8.read_unread _
    isplitl [HS1]
    · iexists _; isplitr; swap; · iexact HS1
      ipureintro; exact harg9.read_unread _
    isplitl [HS2]
    · iexists _, _; isplitr; swap; · iexact HS2
      ipureintro; rfl
    isplitl [Hq0]; · iexact Hq0
    isplitl [Hq1]; · iexact Hq1
    isplitl [Hh0]; · iexact Hh0
    isplitl [Hh1]; · iexact Hh1
    iexists _; iexact HW

end Cert.Kernel2.Hand

end
-- ==== Proof.Run2.lean ====
/-
The run of layer 0's MLP call, at any instance of the floats: every point writes its block, the weights stay in scratch
from the first point on, and so the result is block by block `outBlk` of the arguments' blocks.
-/
module

public import proofs.«01_k».proof.Proof.BodyB2

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data -/

/-- The weights in scratch, and the block written at a point. -/
abbrev W1 (c : Dev nD) : Vec F S1024x4096 .bf16 := w1 c (V m c main_arg3)
abbrev W2 (c : Dev nD) : Vec F S4096x1024 .bf16 := w2 c (V m c main_arg4)
def blockAt (c : Dev nD) (t : Fin cfg0.N) : Vec F S1024x1024 .f32 :=
  outBlk (iblk m c 0 t) (iblk m c 1 t) (iblk m c 2 t) (W1 m c) (W2 m c)

/-- The invariant before the first point, -/
def inv0 (c : Dev nD) : sProp 𝕄 := held m iprop(∃ d, owns (c : Thread nD τ) wbuf1 fullShare d) iprop(∃ d, owns (c : Thread nD τ) wbuf2 fullShare d) c
/-- and from then on: the weights are in scratch. -/
def inv1 (c : Dev nD) : sProp 𝕄 := held m iprop(owns (c : Thread nD τ) wbuf1 fullShare (W1 m c)) iprop(owns (c : Thread nD τ) wbuf2 fullShare (W2 m c)) c

theorem inv1_inv0 (c : Dev nD) : inv1 m c ⊢ inv0 m c := by
  unfold inv0 inv1 held
  iintro ⟨⟨HS0, HS1, HS2⟩, Hg, Hq, Hh⟩
  isplitl [HS0 HS1 HS2]
  · isplitl [HS0]; · iexists _; iexact HS0
    isplitl [HS1]; · iexists _; iexact HS1
    iexact HS2
  isplitl [Hg]; · iexact Hg
  isplitl [Hq]; · iexact Hq
  iexact Hh

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockAt m c t
  Φ t := if t.val = 0 then inv0 m c else inv1 m c
  q _ := fullShare
  owed _ := 0

theorem dats_A (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = blockAt m c t := by dsimp only [dats]

/-! An input's staging buffer holds its block at every point. -/

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [dats_A]; try rfl) t d).trans
    (by unfold Dat.fetched Dat.blockOf iblk; rw [dats_A]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [dats_A]; try rfl) t d).trans
    (by unfold Dat.fetched Dat.blockOf iblk; rw [dats_A]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [dats_A]; try rfl) t d).trans
    (by unfold Dat.fetched Dat.blockOf iblk; rw [dats_A]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [dats_A]; try rfl) t d).trans
    (by unfold Dat.fetched Dat.blockOf iblk; rw [dats_A]; try rfl)

/-! ## The body at a point -/

/-- What the body is called with at point `t`, window by window, and what it returns. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d)))
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t))

theorem inv_first (c : Dev nD) (t : Fin cfg0.N) (h : t.val % 16 = 0) : (dats m 0 c).Φ t.castSucc = inv0 m c := by
  refine (show (dats m 0 c).Φ t.castSucc = if t.val = 0 then inv0 m c else inv1 m c from rfl).trans (if_pos ?_)
  have ht : t.val < 16 := Nat.lt_of_lt_of_eq t.isLt N_0; omega
theorem inv_later (c : Dev nD) (t : Fin cfg0.N) (h : ¬ t.val % 16 = 0) : (dats m 0 c).Φ t.castSucc = inv1 m c := by
  refine (show (dats m 0 c).Φ t.castSucc = if t.val = 0 then inv0 m c else inv1 m c from rfl).trans (if_neg ?_)
  have ht : t.val < 16 := Nat.lt_of_lt_of_eq t.isLt N_0; omega
theorem inv_next (c : Dev nD) (t : Fin cfg0.N) : (dats m 0 c).Φ t.succ = inv1 m c :=
  (show (dats m 0 c).Φ t.succ = if t.val + 1 = 0 then inv0 m c else inv1 m c from rfl).trans (if_neg (by omega))

set_option maxHeartbeats 1600000 in
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [inv_next, after_0, after_1, after_2, after_3, after_4]
  unfold Dat.owesAt Pipeline.owesWithin
  rw [show (dats m 0 c).owed t.castSucc = 0 from rfl, show (dats m 0 c).owed t.succ = 0 from rfl]
  by_cases h0 : t.val % 16 = 0
  · rw [inv_first m c t h0]; unfold inv0 inv1 held
    iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩⟩
    iapply ((bodyA c (grid0.coords t) _ _ _ _ _ _ _ _ _ _ _ _ _ _ _ _ ((first_iff t).mpr h0) (iblk m c 0 t) (iblk m c 1 t) (iblk m c 2 t) (iblk m c 3 t) (V m c main_arg3) (V m c main_arg4)) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, HS0, HS1, HS2, Hq0, Hq1, Hh0, Hh1, ⟨%W', HW'⟩⟩
    isplitl [HS0 HS1 HS2 Hg Hq0 Hq1 Hh0 Hh1]
    · isplitl [HS0 HS1 HS2]
      · isplitl [HS0]; · iexact HS0
        isplitl [HS1]; · iexact HS1
        iexact HS2
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · rw [inv_later m c t h0]; unfold inv1 held
    iintro ⟨⟨⟨HS0, HS1, HS2⟩, Hg, ⟨Hq0, Hq1⟩, ⟨Hh0, Hh1⟩⟩, ⟨%W, -, HW⟩, ⟨%d0, H0⟩, ⟨%d1, H1⟩, ⟨%d2, H2⟩, ⟨%d3, H3⟩, ⟨%d4, H4⟩⟩
    iapply ((bodyB c (grid0.coords t) _ _ _ _ _ _ _ _ _ _ _ _ _ _ _ _ (fun h => h0 ((first_iff t).mp h)) (iblk m c 0 t) (iblk m c 1 t) (iblk m c 2 t) (iblk m c 3 t) (V m c main_arg3) (V m c main_arg4)) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, HS0, HS1, HS2, Hq0, Hq1, Hh0, Hh1, ⟨%W', HW'⟩⟩
    isplitl [HS0 HS1 HS2 Hg Hq0 Hq1 Hh0 Hh1]
    · isplitl [HS0 HS1 HS2]
      · isplitl [HS0]; · iexact HS0
        isplitl [HS1]; · iexact HS1
        iexact HS2
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

theorem body_row (t : Fin cfg0.N) : defs₀ (F := F) .tc cfg0.body (cfg0.bodyArgs t (cfg0.slots t)) = bodyAt0 t := by
  unfold defs₀; rw [Defs.onTc_tc]

theorem body_obl (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- Every execution ends, each array at what the proof data say of it after the last point, every other buffer as the
    kernel found it, and every semaphore at zero. -/
theorem run_launch : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 copySems defs₀ Variants.none copySems_own copied copied_sub m ρ main
    (hbody := fun c => (body_obl m c).loose) (hshare := fun c => (dats m 0 c).share_full fun _ => rfl)
    (howed := fun _ _ => rfl) (V := V m) (hmain := main_launch m Variants.none) (hA := dats_A m)
    (hin := fun c => by rw [launch_held]; exact .rfl)
    (hout := fun c => by rw [launch_held]; exact inv1_inv0 m c)
    (hQ' := fun _ h => h)

/-- The same, with every argument named: each is as launched. -/
theorem run_frame : θ_run defs (onTc (τ := τ) (main (F := F))) ⟨m, fun _ => 0, ρ⟩ (fun r => (Pipeline.FramePost cfgs (dats m) 0 (V m) r ∧ r.2.sem = fun _ => 0) ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h => ⟨h, fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩⟩) (run_launch m ρ)

end Cert.Kernel2.Hand

end
-- ==== Proof.BlockValue2.lean ====
/-
The block that a point writes, read at an index at the ideal instance.
-/
module

public import proofs.«01_k».proof.Proof.Block2
public import proofs.«01_k».proof.Proof.Spec

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Mlp

/-! ## The body's values at an index -/

theorem pay14_at (x : Vec Ideal S1024x1024 .f32) (a b : Vec Ideal S1x1x1024 .f32) (w : Vec Ideal S1x1024 .f32) (r q : Fin 1024) :
    k0_pay14 x a b w (ix2 r q) = modulated (fun k => x (ix2 r k)) (fun k => w (ix2 0 k)) (fun k => b (ix3 0 0 k)) (fun k => a (ix3 0 0 k)) q := by
  pointwise [k0_pay14, k0_pay12, modulated, rinv]
  simp only [mul_assoc]

theorem pay15_at (x : Vec Ideal S1024x1024 .f32) (a b : Vec Ideal S1x1x1024 .f32) (w : Vec Ideal S1x1024 .f32) (v : Vec Ideal S1024x1024 .bf16) (r q : Fin 1024) :
    k0_pay15 x a b w v (ix2 r q) = max (∑ k, k0_pay14 x a b w (ix2 r k) * v (ix2 k q)) 0 := by
  pointwise [k0_pay15]

theorem pay16_at (x v : FVec Ideal S1024x1024 .f32) (g : FVec Ideal S1x1024 .f32) (y u1 u2 u3 d0 d1 d2 d3 : FVec Ideal S1024x1024 .bf16) (r q : Fin 1024) :
    k0_pay16 x g y v d0 u1 d1 u2 d2 u3 d3 (ix2 r q)
      = x (ix2 r q) + g (ix2 0 q) * ((∑ f, v (ix2 r f) * v (ix2 r f) * d0 (ix2 f q))
          + (∑ f, max (∑ k, y (ix2 r k) * u1 (ix2 k f)) 0 * max (∑ k, y (ix2 r k) * u1 (ix2 k f)) 0 * d1 (ix2 f q))
          + (∑ f, max (∑ k, y (ix2 r k) * u2 (ix2 k f)) 0 * max (∑ k, y (ix2 r k) * u2 (ix2 k f)) 0 * d2 (ix2 f q))
          + ∑ f, max (∑ k, y (ix2 r k) * u3 (ix2 k f)) 0 * max (∑ k, y (ix2 r k) * u3 (ix2 k f)) 0 * d3 (ix2 f q)) := by
  pointwise [k0_pay16]

/-! ## The parts of the weights and of the modulation -/

variable {α : Type}

/-- A chunk of the first weight: columns `b` to `b + 1023`. -/
theorem partU_at (X : S1024x4096.Idx → α) (b : ℕ) (inb) (hb : b ≤ 3072) (k f : Fin 1024) :
    part X (Rect.unit (s := S1024x4096) ![0, b] S1024x1024.size inb) (ix2 k f) = X (ix2 k ⟨b + f.val, by omega⟩) :=
  congrArg X (funext fun i => Fin.ext (by
    match i with
    | ⟨0, _⟩ => exact (congrArg (0 + ·) (Nat.one_mul k.val)).trans (Nat.zero_add _)
    | ⟨1, _⟩ => exact congrArg (b + ·) (Nat.one_mul f.val)))

/-- A chunk of the second: rows `a` to `a + 1023`. -/
theorem partD_at (X : S4096x1024.Idx → α) (a : ℕ) (inb) (ha : a ≤ 3072) (f q : Fin 1024) :
    part X (Rect.unit (s := S4096x1024) ![a, 0] S1024x1024.size inb) (ix2 f q) = X (ix2 ⟨a + f.val, by omega⟩ q) :=
  congrArg X (funext fun i => Fin.ext (by
    match i with
    | ⟨0, _⟩ => exact congrArg (a + ·) (Nat.one_mul f.val)
    | ⟨1, _⟩ => exact (congrArg (0 + ·) (Nat.one_mul q.val)).trans (Nat.zero_add _)))

/-- A row of the modulation. -/
theorem partMod_at (X : S1x6x1024.Idx → α) (j : ℕ) (inb) (q : Fin 1024) (hj : j < 6) :
    part X (Rect.unit (s := S1x6x1024) ![0, j, 0] S1x1x1024.size inb) (ix3 0 0 q) = X (ix3 0 ⟨j, hj⟩ q) :=
  congrArg X (funext fun i => Fin.ext (by
    match i with
    | ⟨0, _⟩ => rfl
    | ⟨1, _⟩ => exact congrArg (j + ·) (Nat.one_mul 0)
    | ⟨2, _⟩ => exact (congrArg (0 + ·) (Nat.one_mul q.val)).trans (Nat.zero_add _)))

/-! ## The block at an index -/

theorem pay13_at (g : Vec Ideal S1x1x1024 .f32) (q : Fin 1024) : k0_pay13 g (ix2 0 q) = g (ix3 0 0 q) := by
  pointwise [k0_pay13]

theorem pay12_at (x : Vec Ideal S1024x1024 .f32) (r q : Fin 1024) : k0_pay12 x (ix2 r q) = x (ix2 r q) := by
  pointwise [k0_pay12]

variable (x0 : Vec Ideal S1024x1024 .f32) (x1 : Vec Ideal S1x6x1024 .f32) (x2 : Vec Ideal S1x1024 .f32) (W1 : FVec Ideal S1024x4096 .bf16) (W2 : FVec Ideal S4096x1024 .bf16)

/-- The hidden layer of a block's row, -/
abbrev hidRow (r : Fin 1024) : Fin 4096 → EReal :=
  preact (modulated (fun k => x0 (ix2 r k)) (fun k => x2 (ix2 0 k)) (fun k => x1 (ix3 0 4 k)) (fun k => x1 (ix3 0 3 k))) (fun k f => W1 (ix2 k f))
/-- and the row that the block holds. -/
abbrev outRow (r : Fin 1024) : Fin 1024 → EReal :=
  out (fun k => x0 (ix2 r k)) (fun k => x1 (ix3 0 5 k)) (hidRow x0 x1 x2 W1 r) (fun f q => W2 (ix2 f q))

theorem outBlk_at (r q : Fin 1024) :
    outBlk x0 x1 x2 W1 W2 (ix2 r q) = outRow x0 x1 x2 W1 W2 r q := by
  unfold outBlk
  have m3 : ∀ k, part x1 (Rect.unit (s := S1x6x1024) ![0, 3, 0] S1x1x1024.size inb_S1x6x1024_S1x1x1024_0_3_0) (ix3 0 0 k) = x1 (ix3 0 3 k) := fun k => partMod_at x1 3 _ k (by decide)
  generalize part x1 (Rect.unit (s := S1x6x1024) ![0, 3, 0] S1x1x1024.size inb_S1x6x1024_S1x1x1024_0_3_0) = M3 at m3 ⊢
  have m4 : ∀ k, part x1 (Rect.unit (s := S1x6x1024) ![0, 4, 0] S1x1x1024.size inb_S1x6x1024_S1x1x1024_0_4_0) (ix3 0 0 k) = x1 (ix3 0 4 k) := fun k => partMod_at x1 4 _ k (by decide)
  generalize part x1 (Rect.unit (s := S1x6x1024) ![0, 4, 0] S1x1x1024.size inb_S1x6x1024_S1x1x1024_0_4_0) = M4 at m4 ⊢
  have m5 : ∀ k, part x1 (Rect.unit (s := S1x6x1024) ![0, 5, 0] S1x1x1024.size inb_S1x6x1024_S1x1x1024_0_5_0) (ix3 0 0 k) = x1 (ix3 0 5 k) := fun k => partMod_at x1 5 _ k (by decide)
  generalize part x1 (Rect.unit (s := S1x6x1024) ![0, 5, 0] S1x1x1024.size inb_S1x6x1024_S1x1x1024_0_5_0) = M5 at m5 ⊢
  have u0 : ∀ k f : Fin 1024, part W1 (Rect.unit (s := S1024x4096) ![0, 0] S1024x1024.size inb_S1024x4096_S1024x1024_0_0) (ix2 k f) = W1 (ix2 k ⟨0 + f.val, by omega⟩) := partU_at W1 0 _ (by decide)
  have d0 : ∀ f q : Fin 1024, part W2 (Rect.unit (s := S4096x1024) ![0, 0] S1024x1024.size inb_S4096x1024_S1024x1024_0_0) (ix2 f q) = W2 (ix2 ⟨0 + f.val, by omega⟩ q) := partD_at W2 0 _ (by decide)
  generalize part W1 (Rect.unit (s := S1024x4096) ![0, 0] S1024x1024.size inb_S1024x4096_S1024x1024_0_0) = U0 at u0 ⊢
  generalize part W2 (Rect.unit (s := S4096x1024) ![0, 0] S1024x1024.size inb_S4096x1024_S1024x1024_0_0) = D0 at d0 ⊢
  have u1 : ∀ k f : Fin 1024, part W1 (Rect.unit (s := S1024x4096) ![0, 1024] S1024x1024.size inb_S1024x4096_S1024x1024_0_1024) (ix2 k f) = W1 (ix2 k ⟨1024 + f.val, by omega⟩) := partU_at W1 1024 _ (by decide)
  have d1 : ∀ f q : Fin 1024, part W2 (Rect.unit (s := S4096x1024) ![1024, 0] S1024x1024.size inb_S4096x1024_S1024x1024_1024_0) (ix2 f q) = W2 (ix2 ⟨1024 + f.val, by omega⟩ q) := partD_at W2 1024 _ (by decide)
  generalize part W1 (Rect.unit (s := S1024x4096) ![0, 1024] S1024x1024.size inb_S1024x4096_S1024x1024_0_1024) = U1 at u1 ⊢
  generalize part W2 (Rect.unit (s := S4096x1024) ![1024, 0] S1024x1024.size inb_S4096x1024_S1024x1024_1024_0) = D1 at d1 ⊢
  have u2 : ∀ k f : Fin 1024, part W1 (Rect.unit (s := S1024x4096) ![0, 2048] S1024x1024.size inb_S1024x4096_S1024x1024_0_2048) (ix2 k f) = W1 (ix2 k ⟨2048 + f.val, by omega⟩) := partU_at W1 2048 _ (by decide)
  have d2 : ∀ f q : Fin 1024, part W2 (Rect.unit (s := S4096x1024) ![2048, 0] S1024x1024.size inb_S4096x1024_S1024x1024_2048_0) (ix2 f q) = W2 (ix2 ⟨2048 + f.val, by omega⟩ q) := partD_at W2 2048 _ (by decide)
  generalize part W1 (Rect.unit (s := S1024x4096) ![0, 2048] S1024x1024.size inb_S1024x4096_S1024x1024_0_2048) = U2 at u2 ⊢
  generalize part W2 (Rect.unit (s := S4096x1024) ![2048, 0] S1024x1024.size inb_S4096x1024_S1024x1024_2048_0) = D2 at d2 ⊢
  have u3 : ∀ k f : Fin 1024, part W1 (Rect.unit (s := S1024x4096) ![0, 3072] S1024x1024.size inb_S1024x4096_S1024x1024_0_3072) (ix2 k f) = W1 (ix2 k ⟨3072 + f.val, by omega⟩) := partU_at W1 3072 _ (by decide)
  have d3 : ∀ f q : Fin 1024, part W2 (Rect.unit (s := S4096x1024) ![3072, 0] S1024x1024.size inb_S4096x1024_S1024x1024_3072_0) (ix2 f q) = W2 (ix2 ⟨3072 + f.val, by omega⟩ q) := partD_at W2 3072 _ (by decide)
  generalize part W1 (Rect.unit (s := S1024x4096) ![0, 3072] S1024x1024.size inb_S1024x4096_S1024x1024_0_3072) = U3 at u3 ⊢
  generalize part W2 (Rect.unit (s := S4096x1024) ![3072, 0] S1024x1024.size inb_S4096x1024_S1024x1024_3072_0) = D3 at d3 ⊢
  rw [pay16_at, outRow, out, sum_chunks]
  simp only [pay12_at, pay13_at, pay15_at, pay14_at, m3, m4, m5, u0, u1, u2, u3, d0, d1, d2, d3, Nat.zero_add]
  rfl

end Cert.Kernel2.Hand

end
-- ==== Proof.Value2.lean ====
/-
The result of layer 0's MLP call at the ideal instance, in the arguments.
-/
module

public import proofs.«01_k».proof.Proof.Run2
public import proofs.«01_k».proof.Proof.BlockValue2
public import Idealize.ShloMosaic.Lib.Claim

@[expose] public section

set_option maxRecDepth 16384

noncomputable section

namespace Cert.Kernel2.Hand

open Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Mlp

/-- The windows' blocks at a point: a row tile of the rows, the tile's sequence of the modulation. -/
theorem indices : ∀ t : Fin grid0.N, win0_0.index t = ![t.val, 0] ∧ win0_1.index t = ![t.val / 4, 0, 0] ∧ win0_2.index t = ![0, 0] ∧ win0_3.index t = ![0, 0] ∧ win0_4.index t = ![t.val, 0] := by
  decide +kernel

theorem drop1_at (X : Vec Ideal S1x1024x4096 .f32) (h : S1x1024x4096.ShapeCasts S1024x4096) (k : Fin 1024) (f : Fin 4096) : shapeCast S1024x4096 X h (ix2 k f) = X (ix3 0 k f) := by
  pointwise
theorem drop2_at (X : Vec Ideal S1x4096x1024 .f32) (h : S1x4096x1024.ShapeCasts S4096x1024) (f : Fin 4096) (q : Fin 1024) : shapeCast S4096x1024 X h (ix2 f q) = X (ix3 0 f q) := by
  pointwise

/-- The weights in scratch at an index. -/
theorem w1_at (c : Dev nD) (fh : HbBuf0 (F := Ideal) c hbM0_0) (k : Fin 1024) (f : Fin 4096) : w1 c fh (ix2 k f) = (fh : S2x1024x4096.Idx → EReal) (ix3 0 k f) := by
  show shapeCast S1024x4096 (part (fh : S2x1024x4096.Idx → EReal) (Rect.unit (s := S2x1024x4096) ![0, 0, 0] S1x1024x4096.size inb_S2x1024x4096_S1x1024x4096_0_0_0)) (show S1x1024x4096.ShapeCasts S1024x4096 by decide) (ix2 k f) = _
  refine (drop1_at _ _ k f).trans (congrArg (fh : S2x1024x4096.Idx → EReal) (funext fun i => Fin.ext ?_))
  match i with
  | ⟨0, _⟩ => rfl
  | ⟨1, _⟩ => exact (congrArg (0 + ·) (Nat.one_mul k.val)).trans (Nat.zero_add _)
  | ⟨2, _⟩ => exact (congrArg (0 + ·) (Nat.one_mul f.val)).trans (Nat.zero_add _)
theorem w2_at (c : Dev nD) (fh : HbBuf0 (F := Ideal) c hbM0_1) (f : Fin 4096) (q : Fin 1024) : w2 c fh (ix2 f q) = (fh : S2x4096x1024.Idx → EReal) (ix3 0 f q) := by
  show shapeCast S4096x1024 (part (fh : S2x4096x1024.Idx → EReal) (Rect.unit (s := S2x4096x1024) ![0, 0, 0] S1x4096x1024.size inb_S2x4096x1024_S1x4096x1024_0_0_0)) (show S1x4096x1024.ShapeCasts S4096x1024 by decide) (ix2 f q) = _
  refine (drop2_at _ _ f q).trans (congrArg (fh : S2x4096x1024.Idx → EReal) (funext fun i => Fin.ext ?_))
  match i with
  | ⟨0, _⟩ => rfl
  | ⟨1, _⟩ => exact (congrArg (0 + ·) (Nat.one_mul f.val)).trans (Nat.zero_add _)
  | ⟨2, _⟩ => exact (congrArg (0 + ·) (Nat.one_mul q.val)).trans (Nat.zero_add _)

variable (m : (ℓ : Loc nD τ sig) → Buf (Elt Ideal) ℓ)

theorem iblk0_at (c : Dev nD) (t : Fin cfg0.N) (r k : Fin 1024) :
    (iblk m c 0 t : S1024x1024.Idx → EReal) (ix2 r k) = (m ((c : Thread nD τ).loc main_arg0) : S4x4096x1024.Idx → EReal) (ix3 ⟨(t.val * 1024 + r.val) / 4096, by have := t.isLt; have : cfg0.N = 16 := N_0; omega⟩ ⟨(t.val * 1024 + r.val) % 4096, by omega⟩ k) := by
  blk_simp [iblk, indices t]
  entry_read
  pointwise
  blk_ext [indices t]
theorem iblk1_at (c : Dev nD) (t : Fin cfg0.N) (j : Fin 6) (k : Fin 1024) :
    (iblk m c 1 t : S1x6x1024.Idx → EReal) (ix3 0 j k) = (m ((c : Thread nD τ).loc main_arg1) : S4x6144.Idx → EReal) (ix2 ⟨t.val / 4, by have := t.isLt; have : cfg0.N = 16 := N_0; omega⟩ ⟨j.val * 1024 + k.val, by omega⟩) := by
  blk_simp [iblk, indices t]
  entry_read
  pointwise
  blk_ext [indices t]
theorem iblk2_at (c : Dev nD) (t : Fin cfg0.N) (k : Fin 1024) :
    (iblk m c 2 t : S1x1024.Idx → EReal) (ix2 0 k) = (m ((c : Thread nD τ).loc main_arg2) : S1024.Idx → EReal) (ix1 k) := by
  blk_simp [iblk, indices t]
  entry_read
  pointwise
  blk_ext [indices t]

/-- The result in the arguments. -/
def result (c : Dev nD) : S16384x1024.Idx → EReal := fun i =>
  midOut (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

theorem blockAt_at (c : Dev nD) (t : Fin cfg0.N) (r q : Fin 1024) (h : t.val * 1024 + r.val < 16384) :
    blockAt m c t (ix2 r q) = result m c (ix2 ⟨t.val * 1024 + r.val, h⟩ q) := by
  have hb : (⟨t.val / 4, by omega⟩ : Fin 4) = ⟨(t.val * 1024 + r.val) / 4096, by omega⟩ := Fin.ext (by show t.val / 4 = (t.val * 1024 + r.val) / 4096; omega)
  show outBlk _ _ _ (w1 c (V m c main_arg3)) (w2 c (V m c main_arg4)) (ix2 r q) = midOut _ _ _ _ _ ⟨t.val * 1024 + r.val, h⟩ q
  rw [V_main_arg3, V_main_arg4, outBlk_at]
  unfold midOut mlpRow
  simp only [outRow, hidRow, iblk0_at, iblk1_at, iblk2_at, w1_at, w2_at, hb]
  rfl

theorem final_result (c : Dev nD) : (dats m 0 c).arrAt 4 cfg0.N = result m c := by
  refine (dats m 0 c).arrAt_eq_of_covers 4 _ (by decide +kernel) fun t hf y => ?_
  rw [after_4]
  have ht : t.val < 16 := Nat.lt_of_lt_of_eq t.isLt N_0
  have hy : (y 0).val < 1024 := (y 0).isLt
  refine (congrArg (blockAt m c t) (eq_ix2 (y : S1024x1024.Idx))).trans ((blockAt_at m c t (y 0) (y 1) (by omega)).trans (congrArg (result m c) ?_))
  blk_ext [indices t]

/-! ## The run to the result -/

variable (ρ : Dev nD → PrngReg)

theorem run_result : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 4).trans (final_result m c), (h.2 c)⟩) (run_frame m ρ)

end Cert.Kernel2.Hand

end
-- ==== Proof.RefValue2.lean ====
/-
The reference's value at the ideal instance, read at an index: stage by stage, so that no row is read twice.
-/
module

public import proofs.«01_k».proof.Proof.Spec
public import proofs.«01_k».proof.Proof.Gen.Reference2Ideal.Run

@[expose] public section

set_option maxRecDepth 16384

noncomputable section

namespace Cert.Reference2Ideal.Hand

open Cert.Reference2Ideal Cert.Reference2Ideal.Gen Cert.Reference2Ideal.Value Cert.Mlp
open Idealize.ShloMosaic Idealize.ShloMosaic.TcCoe Idealize.SL.Sem Idealize.ShloMosaic.StableHlo

variable (x : FVec Ideal S4x4096x1024 .f32) (mod : FVec Ideal S4x6144 .f32) (g : FVec Ideal S1024 .f32) (w1 : FVec Ideal S2x1024x4096 .f32) (w2 : FVec Ideal S2x4096x1024 .f32)

/-- The reciprocal root mean square of every row, -/
def rmsOf (x : FVec Ideal S4x4096x1024 .f32) : FVec Ideal S4x4096x1024 .f32 :=
  broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))
/-- a row of weights on every row, -/
def onRows (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)
/-- the rows normed and modulated, -/
def modOf : FVec Ideal S4x4096x1024 .f32 :=
  addf (mulf (mulf (mulf x (rmsOf x)) (onRows g))
      (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] mod slices_S4x6144_S4x1024_0_4096)))))
    (broadcastInDim S4x4096x1024 ![0, 1, 2] bcast_S4x1x1024_S4x4096x1024_0_1_2 (broadcastInDim S4x1x1024 ![0, 2] bcast_S4x1024_S4x1x1024_0_2 (extractStridedSlice S4x1024 ![0, 3072] mod slices_S4x6144_S4x1024_0_3072)))
/-- the hidden layer, -/
def hidOf (y : FVec Ideal S4x4096x1024 .f32) : FVec Ideal S4x4096x4096 .f32 :=
  maximumf (Host.dotGeneral (F := Ideal) dot_S4x4096x1024_S1024x4096_S4x4096x4096_2_0_01_1_n_n none y (shapeCast _ (extractStridedSlice S1x1024x4096 ![0, 0, 0] w1 slices_S2x1024x4096_S1x1024x4096_0_0_0) shapeCasts_S1x1024x4096_S1024x4096 : FVec Ideal S1024x4096 .f32)) (broadcastInDim S4x4096x4096 ![] bcast_S_S4x4096x4096 (constant S_ .f32 0x00000000#32))
/-- the gated output added, -/
def outOf (h : FVec Ideal S4x4096x4096 .f32) : FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] mod slices_S4x6144_S4x1024_0_5120)))
    (Host.dotGeneral (F := Ideal) dot_S4x4096x4096_S4096x1024_S4x4096x1024_2_0_01_1_n_n none (mulf h h) (shapeCast _ (extractStridedSlice S1x4096x1024 ![0, 0, 0] w2 slices_S2x4096x1024_S1x4096x1024_0_0_0) shapeCasts_S1x4096x1024_S4096x1024 : FVec Ideal S4096x1024 .f32)))
/-- and the sequences' rows one after another. -/
def lastOf (o : FVec Ideal S4x4096x1024 .f32) : FVec Ideal S16384x1024 .f32 :=
  shapeCast _ o shapeCasts_S4x4096x1024_S16384x1024

theorem res_eq (m : (ℓ : Loc nD τ sig) → Buf (Elt Ideal) ℓ) (c : Dev nD) :
    res_main_v39 m c = lastOf (outOf (m ((c.tc : Thread nD τ).loc main_arg0)) (m ((c.tc : Thread nD τ).loc main_arg1)) (m ((c.tc : Thread nD τ).loc main_arg4))
      (hidOf (m ((c.tc : Thread nD τ).loc main_arg3)) (modOf (m ((c.tc : Thread nD τ).loc main_arg0)) (m ((c.tc : Thread nD τ).loc main_arg1)) (m ((c.tc : Thread nD τ).loc main_arg2))))) := rfl

theorem rmsOf_at (b : Fin 4) (s : Fin 4096) (k : Fin 1024) : rmsOf x (ix3 b s k) = rinv (fun k => x (ix3 b s k)) := by
  pointwise [rmsOf, rinv]
theorem onRows_at (b : Fin 4) (s : Fin 4096) (k : Fin 1024) : onRows g (ix3 b s k) = g (ix1 k) := by
  pointwise [onRows]
theorem modOf_at (b : Fin 4) (s : Fin 4096) (k : Fin 1024) : modOf x mod g (ix3 b s k)
    = modulated (fun k => x (ix3 b s k)) (fun k => g (ix1 k)) (fun k => mod (ix2 b ⟨4096 + k.val, by omega⟩)) (fun k => mod (ix2 b ⟨3072 + k.val, by omega⟩)) k := by
  pointwise [modOf, modulated]
  simp only [rmsOf_at, onRows_at]
theorem hidOf_at (y : FVec Ideal S4x4096x1024 .f32) (b : Fin 4) (s : Fin 4096) (f : Fin 4096) : hidOf w1 y (ix3 b s f) = preact (fun k => y (ix3 b s k)) (fun k f => w1 (ix3 0 k f)) f := by
  pointwise [hidOf, preact]
theorem outOf_at (h : FVec Ideal S4x4096x4096 .f32) (b : Fin 4) (s : Fin 4096) (q : Fin 1024) : outOf x mod w2 h (ix3 b s q)
    = out (fun k => x (ix3 b s k)) (fun k => mod (ix2 b ⟨5120 + k.val, by omega⟩)) (fun f => h (ix3 b s f)) (fun f q => w2 (ix3 0 f q)) q := by
  pointwise [outOf, out]
theorem lastOf_at (o : FVec Ideal S4x4096x1024 .f32) (r : Fin 16384) (q : Fin 1024) : lastOf o (ix2 r q)
    = o (ix3 ⟨r.val / 4096, by omega⟩ ⟨r.val % 4096, by omega⟩ q) := by
  pointwise [lastOf]

/-- The reference's result at an index. -/
theorem res_at (m : (ℓ : Loc nD τ sig) → Buf (Elt Ideal) ℓ) (c : Dev nD) (r : Fin 16384) (q : Fin 1024) :
    res_main_v39 m c (ix2 r q) = midOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r q := by
  rw [res_eq, lastOf_at]
  unfold midOut mlpRow
  simp only [outOf_at, hidOf_at, modOf_at]

end Cert.Reference2Ideal.Hand

end
-- ==== Proof.Value3.lean ====
/-
The modulation call's result at the ideal instance, and the reference's: for each layer, the activations' SiLU times the layer's weights, plus its bias.
-/
module

public import proofs.«01_k».proof.Proof.Gen.Kernel3Ideal.Frame
public import proofs.«01_k».proof.Proof.Gen.Reference3Ideal.Run
public import Idealize.ShloMosaic.Lib.Pointwise
public import Idealize.ShloMosaic.Lib.Pipeline.ValueKit
public import Idealize.ShloMosaic.Lib.Claim

@[expose] public section

set_option maxRecDepth 16384

noncomputable section

namespace Cert.Adaln

open Idealize.ShloMosaic

/-- `x · σ(x)`. -/
def silu (x : EReal) : EReal := x * Ideal.div 1 (1 + Ideal.exp (-x))

/-- Row `b` of layer `i`'s modulation at column `q`, from `n` rows of activations. -/
def modulation {n : ℕ} (c : Shape.Idx ⟨2, ![n, 1024]⟩ → EReal) (w : Shape.Idx ⟨3, ![2, 1024, 6144]⟩ → EReal) (bias : Shape.Idx ⟨2, ![2, 6144]⟩ → EReal)
    (i : Fin 2) (b : Fin n) (q : Fin 6144) : EReal :=
  (∑ k : Fin 1024, silu (c (ix2 b k)) * w (ix3 i k q)) + bias (ix2 i q)

end Cert.Adaln

namespace Cert.Kernel3Ideal.Hand

open Cert.Kernel3Ideal.Gen Cert.Adaln
open Idealize.ShloMosaic Idealize.ShloMosaic.TcCoe Idealize.ShloMosaic.Tactic Idealize.SL.Sem
open Idealize.ShloMosaic.Pipeline (Dat Cfg Window)

/-- The block that a point writes, at an index. -/
theorem pay1_at (v0 : Vec Ideal S8x1024 .f32) (v5 : Vec Ideal S1x1024x1536 .f32) (v9 : Vec Ideal S1x1x1536 .f32) (b : Fin 8) (q : Fin 1536) :
    k0_pay1 v0 v5 v9 (ix3 0 b q) = (∑ k : Fin 1024, silu (v0 (ix2 b k)) * v5 (ix3 0 k q)) + v9 (ix3 0 0 q) := by
  pointwise [k0_pay1, silu]
  rfl

/-- The windows' blocks at a point: a quarter of one layer's columns. -/
theorem indices : ∀ t : Fin grid0.N, win0_0.index t = ![0, 0] ∧ win0_1.index t = ![t.val / 4, 0, t.val % 4] ∧ win0_2.index t = ![t.val / 4, 0, t.val % 4] ∧ win0_3.index t = ![t.val / 4, 0, t.val % 4] := by
  decide +kernel

variable (m : (ℓ : Loc nD τ sig) → Buf (Elt Ideal) ℓ)

/-- The padding and the reshape before the call, and the slice after it, at an index. -/
theorem pad_at (X : S4x1024.Idx → EReal) (z : S_.Idx → EReal) (b : Fin 4) (k : Fin 1024) :
    pad S8x1024 ![0, 0] ![4, 0] ![0, 0] X z pads_S4x1024_S8x1024_040_000 h_S_ (ix2 ⟨b.val, by omega⟩ k) = X (ix2 b k) := by
  pointwise
theorem bias_at (X : S2x6144.Idx → EReal) (l : Fin 2) (q : Fin 6144) : shapeCast S2x1x6144 X shapeCasts_S2x6144_S2x1x6144 (ix3 l 0 q) = X (ix2 l q) := by
  pointwise
theorem slice_at (X : S2x8x6144.Idx → EReal) (l : Fin 2) (b : Fin 4) (q : Fin 6144) :
    extractStridedSlice S2x4x6144 ![0, 0, 0] X slices_S2x8x6144_S2x4x6144_0_0_0 (ix3 l b q) = X (ix3 l ⟨b.val, by omega⟩ q) := by
  pointwise

theorem V_v0 (c : Dev nD) : V m c main_v0 = pad S8x1024 ![0, 0] ![4, 0] ![0, 0] (m ((c : Thread nD τ).loc main_arg0) : S4x1024.Idx → EReal) (sitofp (F := Ideal) .f32 (constantI S_ 32 0#32)) pads_S4x1024_S8x1024_040_000 h_S_ := by
  simp only [V, V0, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
theorem V_v1 (c : Dev nD) : V m c main_v1 = shapeCast S2x1x6144 (m ((c : Thread nD τ).loc main_arg2) : S2x6144.Idx → EReal) shapeCasts_S2x6144_S2x1x6144 := by
  simp only [V, V0, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  rfl

/-- The activations with four rows of padding below, as the region finds them. -/
abbrev padded (c : Dev nD) : S8x1024.Idx → EReal := V m c main_v0

theorem iblk0_at (c : Dev nD) (t : Fin cfg0.N) (b : Fin 8) (k : Fin 1024) :
    (iblk m c 0 t : S8x1024.Idx → EReal) (ix2 b k) = padded m c (ix2 b k) := by
  blk_simp [iblk, indices t]
  refine congrArg (padded m c) ?_
  blk_ext [indices t]
theorem iblk1_at (c : Dev nD) (t : Fin cfg0.N) (k : Fin 1024) (q : Fin 1536) :
    (iblk m c 1 t : S1x1024x1536.Idx → EReal) (ix3 0 k q) = (m ((c : Thread nD τ).loc main_arg1) : S2x1024x6144.Idx → EReal) (ix3 ⟨t.val / 4, by have := t.isLt; have : cfg0.N = 8 := N_0; omega⟩ k ⟨t.val % 4 * 1536 + q.val, by omega⟩) := by
  blk_simp [iblk, indices t]
  entry_read
  pointwise
  blk_ext [indices t]
theorem iblk2_at (c : Dev nD) (t : Fin cfg0.N) (q : Fin 1536) :
    (iblk m c 2 t : S1x1x1536.Idx → EReal) (ix3 0 0 q) = (m ((c : Thread nD τ).loc main_arg2) : S2x6144.Idx → EReal) (ix2 ⟨t.val / 4, by have := t.isLt; have : cfg0.N = 8 := N_0; omega⟩ ⟨t.val % 4 * 1536 + q.val, by omega⟩) := by
  blk_simp [iblk, indices t]
  have e : ((win0_2.blk t).view.emb (ix3 0 0 q) : S2x1x6144.Idx) = ix3 ⟨t.val / 4, by have := t.isLt; have : cfg0.N = 8 := N_0; omega⟩ 0 ⟨t.val % 4 * 1536 + q.val, by omega⟩ := by
    blk_ext [indices t]
  exact (congrArg (V m c main_v1 : S2x1x6144.Idx → EReal) e).trans ((congrFun (V_v1 m c) _).trans (bias_at _ _ _))

theorem padded_at (c : Dev nD) (b : Fin 4) (k : Fin 1024) :
    padded m c (ix2 ⟨b.val, by omega⟩ k) = (m ((c : Thread nD τ).loc main_arg0) : S4x1024.Idx → EReal) (ix2 b k) :=
  (congrFun (V_v0 m c) _).trans (pad_at _ _ _ _)

/-- The array that the call returns, all eight rows of it. -/
def rows (c : Dev nD) : S2x8x6144.Idx → EReal := fun i => modulation (padded m c) (m ((c : Thread nD τ).loc main_arg1)) (m ((c : Thread nD τ).loc main_arg2)) (i 0) (i 1) (i 2)

theorem after_at (c : Dev nD) (t : Fin cfg0.N) (b : Fin 8) (q : Fin 1536) :
    ((dats m 0 c).after 3 t : S1x8x1536.Idx → EReal) (ix3 0 b q) = rows m c (ix3 ⟨t.val / 4, by have := t.isLt; have : cfg0.N = 8 := N_0; omega⟩ b ⟨t.val % 4 * 1536 + q.val, by omega⟩) := by
  rw [after0_3]
  have h : ∀ y, out0_3 (iblk m c 0 t) (iblk m c 1 t) (iblk m c 2 t) y = k0_pay1 (F := Ideal) (iblk m c 0 t) (iblk m c 1 t) (iblk m c 2 t) y := fun y => by
    unfold out0_3
    rw [View.canon_unit_zero (by decide), View.ld_unit_zero (by decide), View.ld_unit_zero (by decide), View.ld_unit_zero (by decide)]
  rw [h, pay1_at]
  simp only [iblk0_at, iblk1_at, iblk2_at]
  rfl

theorem final_rows (c : Dev nD) : (dats m 0 c).arrAt 3 cfg0.N = rows m c := by
  refine (dats m 0 c).arrAt_eq_of_covers 3 _ (by decide +kernel) fun t hf y => ?_
  have ht : t.val < 8 := Nat.lt_of_lt_of_eq t.isLt N_0
  have hy : (y : S1x8x1536.Idx) = ix3 0 (y 1) (y 2) := (eq_ix3 (y : S1x8x1536.Idx)).trans (congrArg (fun a : Fin 1 => ix3 a (y 1) (y 2)) (Subsingleton.elim (α := Fin 1) _ _))
  refine (congrArg ((dats m 0 c).after 3 t : S1x8x1536.Idx → EReal) hy).trans ((after_at m c t (y 1) (y 2)).trans (congrArg (rows m c) ?_))
  blk_ext [indices t]

/-- The result in the arguments: the four rows that are not padding. -/
def result (c : Dev nD) : S2x4x6144.Idx → EReal := fun i =>
  modulation (m ((c : Thread nD τ).loc main_arg0)) (m ((c : Thread nD τ).loc main_arg1)) (m ((c : Thread nD τ).loc main_arg2)) (i 0) (i 1) (i 2)

theorem tail_result (c : Dev nD) : Pipeline.afterTail₀ cfgs (dats m) 0 (V0 m) [hostOps1] c main_v3 = result m c := by
  unfold Pipeline.afterTail₀
  have h : Pipeline.withArrays (cfgs 0).spec c (V0 m c) (fun w => (dats m 0 c).arrAt w (cfgs 0).N) (Proc.devRef .tc main_v2) = rows m c :=
    (Pipeline.withArrays_arr spec0 (by decide) c (V0 m c) _ 3).trans (final_rows m c)
  generalize Pipeline.withArrays (cfgs 0).spec c (V0 m c) (fun w => (dats m 0 c).arrAt w (cfgs 0).N) = W at h
  have e : StableHlo.after [hostOps1 (F := Ideal)].flatten W (Proc.devRef .tc main_v3) = extractStridedSlice S2x4x6144 ![0, 0, 0] (W (Proc.devRef .tc main_v2) : S2x8x6144.Idx → EReal) slices_S2x8x6144_S2x4x6144_0_0_0 := by
    simp only [hostOps1, List.flatten_cons, List.flatten_nil, List.append_nil]
    after_results
  rw [e, h]
  funext i
  obtain ⟨l, b, q, rfl⟩ : ∃ l b q, i = ix3 l b q := ⟨_, _, _, eq_ix3 i⟩
  refine (slice_at _ _ _ _).trans ?_
  show modulation (padded m c) _ _ l ⟨b.val, by omega⟩ q = modulation _ _ _ l b q
  exact congrArg (· + (m ((c : Thread nD τ).loc main_arg2) : S2x6144.Idx → EReal) (ix2 l q)) (Finset.sum_congr rfl fun k _ => congrArg (fun z => silu z * (m ((c : Thread nD τ).loc main_arg1) : S2x1024x6144.Idx → EReal) (ix3 l k q)) (padded_at m c b k))

variable (ρ : Dev nD → PrngReg)

theorem run_result : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v3 (Pipeline.mem_restRefs_of main_v3 (by decide) (by decide))).trans (tail_result m c), h.2 c⟩)
    (θ_run_and (run_main m ρ) (unchanged m ρ))

end Cert.Kernel3Ideal.Hand

namespace Cert.Reference3Ideal.Hand

open Cert.Reference3Ideal Cert.Reference3Ideal.Gen Cert.Reference3Ideal.Value Cert.Adaln
open Idealize.ShloMosaic Idealize.ShloMosaic.TcCoe Idealize.SL.Sem Idealize.ShloMosaic.StableHlo

variable (m : (ℓ : Loc nD τ sig) → Buf (Elt Ideal) ℓ) (ρ : Dev nD → PrngReg)

theorem run_result : θ_run defs (onTc (τ := τ) (main (F := Ideal))) ⟨m, fun _ => 0, ρ⟩ fun r => ∀ c : Dev nD,
      (∀ l b q, (r.2.mem ((c.tc : Thread nD τ).loc main_v19) : S2x4x6144.Idx → EReal) (ix3 l b q)
        = modulation (m ((c.tc : Thread nD τ).loc main_arg0)) (m ((c.tc : Thread nD τ).loc main_arg1)) (m ((c.tc : Thread nD τ).loc main_arg2)) l b q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨fun l b q => by
    refine (congrFun (h c).1 (ix3 l b q)).trans ?_
    generalize m ((c.tc : Thread nD τ).loc main_arg0) = A
    generalize m ((c.tc : Thread nD τ).loc main_arg1) = B
    generalize m ((c.tc : Thread nD τ).loc main_arg2) = C
    match l with
    | ⟨0, _⟩ => pointwise [modulation, silu]
    | ⟨1, _⟩ => pointwise [modulation, silu], (h c).2⟩) (run (F := Ideal) m ρ)

end Cert.Reference3Ideal.Hand

end
-- ==== Proof.GlaBody.lean ====
/-
The gated linear attention body's values as functions of a sequence, a chunk and a head: what the generated names spell one by one.
-/
module

public import proofs.«01_k».proof.Proof.Gen.Kernel4Ideal.Frame
public import Idealize.ShloMosaic.Lib.Pointwise
public import Idealize.ShloMosaic.Lib.Pipeline.ValueKit
public import Idealize.ShloMosaic.Lib.Claim

@[expose] public section

set_option maxRecDepth 16384

noncomputable section

namespace Cert.Kernel4Ideal.Hand

open Cert.Kernel4Ideal.Gen
open Idealize.ShloMosaic Idealize.ShloMosaic.TcCoe Idealize.ShloMosaic.Tactic Idealize.SL.Sem

variable {F : FTy → Type} [FloatOps F]

/-! ## The parts of a block, by sequence, chunk and head -/

theorem slV : ∀ c h : Fin 4, S256x1024.Slices ![64 * c.val, 256 * h.val] S64x256 := by decide
theorem slL : ∀ c : Fin 4, S256x1024.Slices ![64 * c.val, 0] S64x1024 := by decide
theorem slK : ∀ c : Fin 4, S256x512.Slices ![64 * c.val, 0] S64x512 := by decide
theorem slKd : ∀ h : Fin 4, S64x512.Slices ![0, 128 * h.val] S64x128 := by decide
theorem slD : ∀ h : Fin 4, S1x512.Slices ![0, 128 * h.val] S1x128 := by decide
theorem slQ : ∀ c h : Fin 4, S256x512.Slices ![64 * c.val, 128 * h.val] S64x128 := by decide
theorem inbX : ∀ b : Fin 4, ∀ a, (![b.val, 0, 0] : Fin 3 → Nat) a + S1x256x1024.size a ≤ S4x256x1024.size a := by decide
theorem inbM : ∀ (b : Fin 4) (j : Fin 3), ∀ a, (![b.val, j.val, 0] : Fin 3 → Nat) a + S1x1x1024.size a ≤ S4x6x1024.size a := by decide
theorem inbS : ∀ b h : Fin 4, ∀ a, (![b.val, h.val, 0, 0] : Fin 4 → Nat) a + S1x1x256x128.size a ≤ S4x4x256x128.size a := by decide
theorem inbO : ∀ b c h : Fin 4, ∀ a, (![b.val, 64 * c.val, 256 * h.val] : Fin 3 → Nat) a + S1x64x256.size a ≤ S4x256x1024.size a := by decide
theorem inbR : ∀ b h : Fin 4, ∀ a, (![b.val, 0, 256 * h.val] : Fin 3 → Nat) a + S1x256x256.size a ≤ S4x256x1024.size a := by decide

/-- The keys of a chunk decayed to its end, -/
def kdV (k : FVec F S256x512 .f32) (l2 : FVec F S256x1024 .bf16) (c : Fin 4) : FVec F S64x512 .bf16 :=
  let e : FVec F S64x1024 .f32 := matmul dot_S64x64_S64x1024_S64x1024_1_0_0_1_n_n none (k0_pay42 (F := F)) (extractStridedSlice S64x1024 ![64 * c.val, 0] l2 (slL c)) (constant S64x1024 .f32 0x00000000#32)
  truncf .bf16 (mulf (extractStridedSlice S64x512 ![64 * c.val, 0] k (slK c)) (exp (addf (extractStridedSlice S64x512 ![0, 0] e slices_S64x1024_o0_0_S64x512) (extractStridedSlice S64x512 ![0, 512] e slices_S64x1024_o0_512_S64x512)))) bitsLt_bf16_f32
/-- its decay, -/
def decV (l : FVec F S256x512 .f32) (c : Fin 4) : FVec F S1x512 .f32 :=
  exp (shapeCast S1x512 (multiReduction .add [0] S512 (extractStridedSlice S64x512 ![64 * c.val, 0] l (slK c)) 0x00000000#32 reduces_S64x512_S512 (.inl rfl) rfl) shapeCasts_S512_S1x512)
/-- what it adds to the state of a head, -/
def kvV (v : FVec F S256x1024 .bf16) (kd : FVec F S64x512 .bf16) (c h : Fin 4) : FVec F S256x128 .f32 :=
  matmul dot_S64x256_S64x128_S256x128_0_0_1_1_n_n none (extractStridedSlice S64x256 ![64 * c.val, 256 * h.val] v (slV c h)) (extractStridedSlice S64x128 ![0, 128 * h.val] kd (slKd h)) (constant S256x128 .f32 0x00000000#32)
/-- the state after it, -/
def updV (d : FVec F S1x512 .f32) (kv : FVec F S256x128 .f32) (h : Fin 4) (s : Vec F S1x1x256x128 .f32) : FVec F S256x128 .f32 :=
  addf (mulf (broadcastTo S256x128 (extractStridedSlice S1x128 ![0, 128 * h.val] d (slD h)) broadcasts_S1x128_S256x128) (shapeCast S256x128 s shapeCasts_S1x1x256x128_S256x128)) kv
/-- and what the queries read from that state. -/
def obV (q : FVec F S256x512 .bf16) (u : FVec F S256x128 .f32) (c h : Fin 4) : FVec F S64x256 .f32 :=
  matmul dot_S64x128_S256x128_S64x256_1_1_0_0_n_n none (extractStridedSlice S64x128 ![64 * c.val, 128 * h.val] q (slQ c h)) (truncf .bf16 u bitsLt_bf16_f32) (constant S64x256 .f32 0x00000000#32)

/-- What a body reads: the norm's weights, the rows and the modulation of each sequence, and the weights. -/
structure Reads (F : FTy → Type) where
  g : Vec F S1x1024 .f32
  x : Fin 4 → Vec F S1x256x1024 .f32
  mod : Fin 4 → Fin 3 → Vec F S1x1x1024 .f32
  w : Vec F S1024x2048 .bf16
  wl : Vec F S1024x128 .bf16
  wr : Vec F S1024x1024 .bf16
  g2 : Vec F S128x512 .bf16
  bg : Vec F S1x512 .f32
  gn : Vec F S1x1024 .f32
  wo : Vec F S1024x1024 .bf16

variable (R : Reads F)

def hidV (b : Fin 4) : FVec F S256x1024 .bf16 := k0_pay5 R.g (R.x b) (R.mod b 0) (R.mod b 1)
def laV (b : Fin 4) : FVec F S256x512 .f32 := k0_pay31 (hidV R b) R.wl R.g2 R.bg
def la2V (b : Fin 4) : FVec F S256x1024 .bf16 := k0_pay32 (hidV R b) R.wl R.g2 R.bg
def kdR (b c : Fin 4) : FVec F S64x512 .bf16 := kdV (k0_pay28 (hidV R b) R.w) (la2V R b) c
/-- The state of a sequence's head after a chunk, from the state before. -/
def stepV (b c h : Fin 4) (s : Vec F S1x1x256x128 .f32) : FVec F S256x128 .f32 :=
  updV (decV (laV R b) c) (kvV (k0_pay29 (hidV R b) R.w) (kdR R b c) c h) h s
/-- The queries' reading. -/
def outV (b c h : Fin 4) (s : Vec F S1x1x256x128 .f32) : FVec F S64x256 .f32 := obV (k0_pay27 (hidV R b) R.w) (stepV R b c h s) c h

/-- The chunk, the sequence and the head of an update. -/
abbrev cN (n : ℕ) : Fin 4 := ⟨n / 16 % 4, Nat.mod_lt _ (by decide)⟩
abbrev bN (n : ℕ) : Fin 4 := ⟨n / 4 % 4, Nat.mod_lt _ (by decide)⟩
abbrev hN (n : ℕ) : Fin 4 := ⟨n % 4, Nat.mod_lt _ (by decide)⟩

abbrev rectS (b h : Fin 4) : Rect S4x4x256x128 := Rect.unit (s := S4x4x256x128) ![b.val, h.val, 0, 0] S1x1x256x128.size (inbS b h)
abbrev rectO (b c h : Fin 4) : Rect S4x256x1024 := Rect.unit (s := S4x256x1024) ![b.val, 64 * c.val, 256 * h.val] S1x64x256.size (inbO b c h)

abbrev pieceS (n : ℕ) (s : Vec F S1x1x256x128 .f32) : View.Piece (Elt F) S4x4x256x128 .f32 :=
  ⟨rectS (bN n) (hN n), shapeCast S1x1x256x128 (stepV R (bN n) (cN n) (hN n) s) shapeCasts_S256x128_S1x1x256x128⟩
abbrev pieceO (n : ℕ) (s : Vec F S1x1x256x128 .f32) : View.Piece (Elt F) S4x256x1024 .f32 :=
  ⟨rectO (bN n) (cN n) (hN n), shapeCast S1x64x256 (outV R (bN n) (cN n) (hN n) s) shapeCasts_S64x256_S1x64x256⟩

/-- The rows of a sequence's block: the heads normed, weighed and gated, projected back, and added to the rows. -/
def rowsV (b : Fin 4) (o : Fin 4 → Vec F S1x256x256 .f32) : FVec F S1x256x1024 .f32 :=
  k0_pay382 (k0_pay30 (hidV R b) R.wr) (k0_pay380 (k0_pay379 (o 0)) (o 1) (o 2) (o 3)) (k0_pay381 R.gn) R.wo (R.x b) (R.mod b 2)

abbrev rectR (b h : Fin 4) : Rect S4x256x1024 := Rect.unit (s := S4x256x1024) ![b.val, 0, 256 * h.val] S1x256x256.size (inbR b h)
abbrev rectX (b : Fin 4) : Rect S4x256x1024 := Rect.unit (s := S4x256x1024) ![b.val, 0, 0] S1x256x1024.size (inbX b)
abbrev pieceR (b : Fin 4) (o : Fin 4 → Vec F S1x256x256 .f32) : View.Piece (Elt F) S4x256x1024 .f32 := ⟨rectX b, rowsV R b o⟩

variable (m : (ℓ : Loc nD τ sig) → Buf (Elt F) ℓ) (c : Dev nD) (t : Fin cfg0.N)

/-- What the body reads at a point, the output gate's weights given. -/
def readsAt (wr : Vec F S1024x1024 .bf16) : Reads F where
  g := View.readAt (Elt F) (ms0_2 t).view (Rect.unit (s := S1x1024) ![0, 0] S1x1024.size inb_S1x1024_S1x1024_0_0).toLoadRect ((hs0_2 t).unread (iblk m c 2 t))
  x b := View.readAt (Elt F) (ms0_0 t).view (Rect.unit (s := S4x256x1024) ![b.val, 0, 0] S1x256x1024.size (inbX b)).toLoadRect ((hs0_0 t).unread (iblk m c 0 t))
  mod b j := View.readAt (Elt F) (ms0_1 t).view (Rect.unit (s := S4x6x1024) ![b.val, j.val, 0] S1x1x1024.size (inbM b j)).toLoadRect ((hs0_1 t).unread (iblk m c 1 t))
  w := View.readAt (Elt F) (ms0_3 t).view (Rect.unit (s := S1024x3088) ![0, 0] S1024x2048.size inb_S1024x3088_S1024x2048_0_0).toLoadRect ((hs0_3 t).unread (iblk m c 3 t))
  wl := View.readAt (Elt F) (ms0_3 t).view (Rect.unit (s := S1024x3088) ![0, 2048] S1024x128.size inb_S1024x3088_S1024x128_0_2048).toLoadRect ((hs0_3 t).unread (iblk m c 3 t))
  wr := wr
  g2 := View.readAt (Elt F) (ms0_4 t).view (Rect.unit (s := S128x512) ![0, 0] S128x512.size inb_S128x512_S128x512_0_0).toLoadRect ((hs0_4 t).unread (iblk m c 4 t))
  bg := View.readAt (Elt F) (ms0_5 t).view (Rect.unit (s := S1x512) ![0, 0] S1x512.size inb_S1x512_S1x512_0_0).toLoadRect ((hs0_5 t).unread (iblk m c 5 t))
  gn := View.readAt (Elt F) (ms0_6 t).view (Rect.unit (s := S1x1024) ![0, 0] S1x1024.size inb_S1x1024_S1x1024_0_0).toLoadRect ((hs0_6 t).unread (iblk m c 6 t))
  wo := View.readAt (Elt F) (ms0_7 t).view (Rect.unit (s := S1024x1024) ![0, 0] S1024x1024.size inb_S1024x1024_S1024x1024_0_0).toLoadRect ((hs0_7 t).unread (iblk m c 7 t))

end Cert.Kernel4Ideal.Hand

end
-- ==== Proof.GlaFold.lean ====
/-
What the stores of a point leave, one update after the other: a list of stores, each known over the ones before it, read at an index.
-/
module

public import proofs.«01_k».proof.Proof.GlaBody

public import Idealize.ShloMosaic.Lib.WritesUnit

@[expose] public section

set_option maxRecDepth 16384

noncomputable section

namespace Cert.Kernel4Ideal.Hand

open Cert.Kernel4Ideal.Gen
open Idealize.ShloMosaic Idealize.ShloMosaic.TcCoe Idealize.ShloMosaic.Tactic Idealize.SL.Sem

section Lists
variable {sig' : RefSig} {κ : Kind} {sp : Space} {s : Shape} {e : EltTy} {Val : EltTy → Type}
variable (v : View sig' κ sp s e) (f : v.ty.Contents Val) (L : List (View.Piece Val s e)) (N : ℕ) {size : Fin s.rank → ℕ} {off : ℕ → Fin s.rank → ℕ}
  (inb : ∀ n a, off n a + size a ≤ s.size a) (P : ∀ n, (Rect.unit (off n) size (inb n)).shape.Idx → Val e)
  (hL : ∀ n < N, L.drop (N - 1 - n) = ⟨Rect.unit (off n) size (inb n), P n⟩ :: L.drop (N - n))
include hL

/-- An index under store `n` and no later one reads it; -/
theorem read_hit (y : s.Idx) (n : ℕ) (x : (Rect.unit (off n) size (inb n)).shape.Idx) (hx : ∀ a, (y a).val = off n a + (x a).val) :
    ∀ j, n + 1 + j ≤ N → (∀ i, n < i → i < n + 1 + j → ∃ a, (y a).val < off i a ∨ off i a + size a ≤ (y a).val) →
      v.read Val (v.writes Val f (L.drop (N - (n + 1 + j)))) y = P n x := by
  intro j
  induction j with
  | zero =>
    intro hn _
    rw [show N - (n + 1 + 0) = N - 1 - n by omega, hL n (by omega)]
    exact View.read_writes_cons_unit_of_mem v f (inb n) (P n) _ y x rfl hx
  | succ j ih =>
    intro hn hm
    rw [show N - (n + 1 + (j + 1)) = N - 1 - (n + 1 + j) by omega, hL _ (by omega)]
    obtain ⟨a, ha⟩ := hm (n + 1 + j) (by omega) (by omega)
    refine (View.read_writes_cons_unit_of_not_mem v f (inb _) (P _) _ y rfl a ha).trans ?_
    exact ih (by omega) fun i h1 h2 => hm i h1 (by omega)

/-- one under none of the first `j` reads what they were made over. -/
theorem read_miss (y : s.Idx) : ∀ j ≤ N, (∀ i < j, ∃ a, (y a).val < off i a ∨ off i a + size a ≤ (y a).val) →
      v.read Val (v.writes Val f (L.drop (N - j))) y = v.read Val (v.writes Val f (L.drop N)) y := by
  intro j
  induction j with
  | zero => intro _ _; rfl
  | succ j ih =>
    intro hn hm
    rw [show N - (j + 1) = N - 1 - j by omega, hL _ (by omega)]
    obtain ⟨a, ha⟩ := hm j (by omega)
    refine (View.read_writes_cons_unit_of_not_mem v f (inb _) (P _) _ y rfl a ha).trans ?_
    exact ih (by omega) fun i h1 => hm i (by omega)

end Lists

variable {F : FTy → Type} [FloatOps F] (R : Reads F)

/-- A head's state after so many chunks, from the one before them. -/
def stateV (first : Fin 4 → Fin 4 → Vec F S1x1x256x128 .f32) : ℕ → Fin 4 → Fin 4 → Vec F S1x1x256x128 .f32
  | 0 => first
  | n + 1 => fun b h => shapeCast S1x1x256x128 (stepV R b ⟨n % 4, Nat.mod_lt _ (by decide)⟩ h (stateV first n b h)) shapeCasts_S256x128_S1x1x256x128

theorem shapeCast_out (X : S64x256.Idx → Elt F .f32) (t : Fin 64) (e : Fin 256) : shapeCast S1x64x256 X shapeCasts_S64x256_S1x64x256 (ix3 0 t e) = X (ix2 t e) := by
  pointwise

section States
variable (first : Fin 4 → Fin 4 → Vec F S1x1x256x128 .f32) (v : View sig .tc .vmem S4x4x256x128 .f32) (L : List (View.Piece (Elt F) S4x4x256x128 .f32)) (V : ℕ → Vec F S1x1x256x128 .f32)
  (hL : ∀ n < 64, L.drop (63 - n) = pieceS R n (V n) :: L.drop (64 - n))
  (h0 : ∀ n < 16, V n = first (bN n) (hN n))
  (h1 : ∀ n < 64, 16 ≤ n → V n = v.readCov (L.drop (64 - n)) (rectS (bN n) (hN n)).toLoadRect)
include hL

theorem miss_state (n i : ℕ) (y : S4x4x256x128.Idx) (hb : (y 0).val = n / 4 % 4) (hh : (y 1).val = n % 4) (h : n < i) (h' : i < n + 16) :
    ∃ a : Fin 4, (y a).val < (![(bN i).val, (hN i).val, 0, 0] : Fin 4 → ℕ) a ∨ (![(bN i).val, (hN i).val, 0, 0] : Fin 4 → ℕ) a + S1x1x256x128.size a ≤ (y a).val := by
  by_cases hc : i % 4 = n % 4
  · exact ⟨0, by show (y 0).val < i / 4 % 4 ∨ i / 4 % 4 + 1 ≤ (y 0).val; omega⟩
  · exact ⟨1, by show (y 1).val < i % 4 ∨ i % 4 + 1 ≤ (y 1).val; omega⟩

theorem read_state (n : ℕ) (j : ℕ) (hj : j < 16) (hn : n + 1 + j ≤ 64) (x : S1x1x256x128.Idx) (y : S4x4x256x128.Idx)
    (hx : ∀ a : Fin 4, (y a).val = (![(bN n).val, (hN n).val, 0, 0] : Fin 4 → ℕ) a + (x a).val) :
    v.read (Elt F) (v.writes (Elt F) v.junk (L.drop (64 - (n + 1 + j)))) y = shapeCast S1x1x256x128 (stepV R (bN n) (cN n) (hN n) (V n)) shapeCasts_S256x128_S1x1x256x128 x :=
  read_hit v v.junk L 64 (fun n => inbS (bN n) (hN n)) (fun n => shapeCast S1x1x256x128 (stepV R (bN n) (cN n) (hN n) (V n)) shapeCasts_S256x128_S1x1x256x128) hL y n x hx j hn
    fun i h h' => miss_state R L V hL n i y
      (by have h1 : (y 0).val = n / 4 % 4 + (x 0).val := hx 0; have h2 : (x 0).val < 1 := (x 0).isLt; omega)
      (by have h1 : (y 1).val = n % 4 + (x 1).val := hx 1; have h2 : (x 1).val < 1 := (x 1).isLt; omega) h (by omega)

include h0 h1

/-- The state that an update finds: so many chunks on. -/
theorem found (n : ℕ) (hn : n < 64) : V n = stateV R first (n / 16) (bN n) (hN n) := by
  induction n using Nat.strong_induction_on with
  | _ n ih =>
    by_cases h : n < 16
    · rw [h0 n h, Nat.div_eq_of_lt h]; rfl
    · rw [h1 n hn (by omega)]
      funext x
      have hb : bN (n - 16) = bN n := Fin.ext (by show (n - 16) / 4 % 4 = n / 4 % 4; omega)
      have hh : hN (n - 16) = hN n := Fin.ext (by show (n - 16) % 4 = n % 4; omega)
      have e := read_state R v L V hL (n - 16) 15 (by omega) (by omega) x ((rectS (bN n) (hN n)).toLoadRect.idx x) (fun a => by
        rw [hb, hh]
        show (![(bN n).val, (hN n).val, 0, 0] : Fin 4 → ℕ) a + 1 * (x a).val = _
        omega)
      rw [show n - 16 + 1 + 15 = n by omega] at e
      refine e.trans ?_
      rw [show n / 16 = (n - 16) / 16 + 1 by omega, ih (n - 16) (by omega) (by omega), hb, hh]
      rfl

/-- The state after the point, -/
theorem state_after (b h : Fin 4) (e : Fin 256) (d : Fin 128) :
    v.read (Elt F) (v.writes (Elt F) v.junk L) (ix4 b h e d) = stateV R first 4 b h (ix4 0 0 e d) := by
  have hb : bN (48 + 4 * b.val + h.val) = b := Fin.ext (by show (48 + 4 * b.val + h.val) / 4 % 4 = b.val; omega)
  have hh : hN (48 + 4 * b.val + h.val) = h := Fin.ext (by show (48 + 4 * b.val + h.val) % 4 = h.val; omega)
  have k := read_state R v L V hL (48 + 4 * b.val + h.val) (63 - (48 + 4 * b.val + h.val)) (by omega) (by omega) (ix4 0 0 e d) (ix4 b h e d) (fun a => by
    rw [hb, hh]
    match a with
    | ⟨0, _⟩ => rfl
    | ⟨1, _⟩ => rfl
    | ⟨2, _⟩ => exact (Nat.zero_add _).symm
    | ⟨3, _⟩ => exact (Nat.zero_add _).symm)
  rw [show 64 - (48 + 4 * b.val + h.val + 1 + (63 - (48 + 4 * b.val + h.val))) = 0 by omega, List.drop_zero, hb, hh,
    found R first v L V hL h0 h1 (48 + 4 * b.val + h.val) (by omega), hb, hh, show (48 + 4 * b.val + h.val) / 16 = 3 by omega] at k
  rw [k, show cN (48 + 4 * b.val + h.val) = 3 from Fin.ext (by show (48 + 4 * b.val + h.val) / 16 % 4 = 3; omega)]
  rfl

/-- and the readings of its chunks. -/
theorem reading_after (w : View sig .tc .vmem S4x256x1024 .f32) (T : List (View.Piece (Elt F) S4x256x1024 .f32))
    (hT : ∀ n < 64, T.drop (63 - n) = pieceO R n (V n) :: T.drop (64 - n)) (b c h : Fin 4) (t : Fin 64) (e : Fin 256) :
    w.read (Elt F) (w.writes (Elt F) w.junk T) (ix3 b ⟨64 * c.val + t.val, by omega⟩ ⟨256 * h.val + e.val, by omega⟩) = outV R b c h (stateV R first c.val b h) (ix2 t e) := by
  have hb : bN (16 * c.val + 4 * b.val + h.val) = b := Fin.ext (by show (16 * c.val + 4 * b.val + h.val) / 4 % 4 = b.val; omega)
  have hh : hN (16 * c.val + 4 * b.val + h.val) = h := Fin.ext (by show (16 * c.val + 4 * b.val + h.val) % 4 = h.val; omega)
  have hc : cN (16 * c.val + 4 * b.val + h.val) = c := Fin.ext (by show (16 * c.val + 4 * b.val + h.val) / 16 % 4 = c.val; omega)
  have k := read_hit w w.junk T 64 (fun n => inbO (bN n) (cN n) (hN n)) (fun n => shapeCast S1x64x256 (outV R (bN n) (cN n) (hN n) (V n)) shapeCasts_S64x256_S1x64x256) hT
    (ix3 b ⟨64 * c.val + t.val, by omega⟩ ⟨256 * h.val + e.val, by omega⟩) (16 * c.val + 4 * b.val + h.val) (ix3 0 t e) (fun a => by
      rw [hb, hh, hc]
      match a with
      | ⟨0, _⟩ => rfl
      | ⟨1, _⟩ => rfl
      | ⟨2, _⟩ => rfl) (63 - (16 * c.val + 4 * b.val + h.val)) (by omega) (fun i h1 h2 => by
      by_cases e1 : i / 4 % 4 = b.val
      · by_cases e2 : i % 4 = h.val
        · exact ⟨1, by show 64 * c.val + t.val < 64 * (i / 16 % 4) ∨ 64 * (i / 16 % 4) + 64 ≤ 64 * c.val + t.val; omega⟩
        · exact ⟨2, by show 256 * h.val + e.val < 256 * (i % 4) ∨ 256 * (i % 4) + 256 ≤ 256 * h.val + e.val; omega⟩
      · exact ⟨0, by show b.val < i / 4 % 4 ∨ i / 4 % 4 + 1 ≤ b.val; omega⟩)
  rw [show 64 - (16 * c.val + 4 * b.val + h.val + 1 + (63 - (16 * c.val + 4 * b.val + h.val))) = 0 by omega, List.drop_zero] at k
  refine k.trans ?_
  rw [found R first v L V hL h0 h1 (16 * c.val + 4 * b.val + h.val) (by omega), hb, hh, hc, show (16 * c.val + 4 * b.val + h.val) / 16 = c.val by omega]
  exact shapeCast_out _ t e

end States

/-- The rows that a point writes. -/
theorem rows_after (w : View sig .tc .vmem S4x256x1024 .f32) (o : Fin 4 → Fin 4 → Vec F S1x256x256 .f32) (Q : List (View.Piece (Elt F) S4x256x1024 .f32))
    (hQ : Q = List.map (fun b => pieceR R b (o b)) [3, 2, 1, 0]) (b : Fin 4) (r : Fin 256) (k : Fin 1024) :
    w.read (Elt F) (w.writes (Elt F) w.junk Q) (ix3 b r k) = rowsV R b (o b) (ix3 0 r k) := by
  subst hQ
  have h := read_hit w w.junk (List.map (fun b => pieceR R b (o b)) [3, 2, 1, 0]) 4 (fun n => inbX (hN n)) (fun n => rowsV R (hN n) (o (hN n)))
    (fun n hn => by interval_cases n <;> rfl) (ix3 b r k) b.val (ix3 0 r k) (fun a => by
      have hb : (hN b.val) = b := Fin.ext (Nat.mod_eq_of_lt b.isLt)
      rw [hb]
      match a with
      | ⟨0, _⟩ => rfl
      | ⟨1, _⟩ => exact (Nat.zero_add _).symm
      | ⟨2, _⟩ => exact (Nat.zero_add _).symm) (3 - b.val) (by omega) (fun i h1 h2 => ⟨0, by show b.val < i % 4 ∨ i % 4 + 1 ≤ b.val; omega⟩)
  rw [show 4 - (b.val + 1 + (3 - b.val)) = 0 by omega, List.drop_zero, show hN b.val = b from Fin.ext (Nat.mod_eq_of_lt b.isLt)] at h
  exact h

end Cert.Kernel4Ideal.Hand

end
-- ==== Proof.GlaMath.lean ====
/-
Gated linear attention on the reals among the extended reals: the log of a gate, the decay to a chunk's end and the reading of a state, each computed two ways.
-/
module

public import proofs.«01_k».proof.Proof.Spec

@[expose] public section

set_option maxRecDepth 16384

noncomputable section

namespace Cert.Gla

open Idealize.ShloMosaic

/-- A real number, not an infinity. -/
def IsReal (a : EReal) : Prop := ∃ r : ℝ, (r : EReal) = a

namespace IsReal
theorem coe (r : ℝ) : IsReal (r : EReal) := ⟨r, rfl⟩
theorem zero : IsReal 0 := ⟨0, rfl⟩
theorem one : IsReal 1 := ⟨1, rfl⟩
theorem add {a b : EReal} : IsReal a → IsReal b → IsReal (a + b) := by
  rintro ⟨a, rfl⟩ ⟨b, rfl⟩; exact ⟨a + b, EReal.coe_add a b⟩
theorem mul {a b : EReal} : IsReal a → IsReal b → IsReal (a * b) := by
  rintro ⟨a, rfl⟩ ⟨b, rfl⟩; exact ⟨a * b, EReal.coe_mul a b⟩
theorem neg {a : EReal} : IsReal a → IsReal (-a) := by
  rintro ⟨a, rfl⟩; exact ⟨-a, EReal.coe_neg a⟩
theorem sub {a b : EReal} : IsReal a → IsReal b → IsReal (a - b) := by
  rintro ⟨a, rfl⟩ ⟨b, rfl⟩; exact ⟨a - b, EReal.coe_sub a b⟩
theorem min {a b : EReal} (ha : IsReal a) (hb : IsReal b) : IsReal (Min.min a b) := by
  rcases min_choice a b with h | h <;> rw [h] <;> assumption
theorem max {a b : EReal} (ha : IsReal a) (hb : IsReal b) : IsReal (Max.max a b) := by
  rcases max_choice a b with h | h <;> rw [h] <;> assumption
theorem exp {a : EReal} : IsReal a → IsReal (Ideal.exp a) := by
  rintro ⟨a, rfl⟩; exact ⟨_root_.Real.exp a, rfl⟩
theorem sum {ι : Type} (s : Finset ι) {f : ι → EReal} (h : ∀ i, IsReal (f i)) : IsReal (∑ i ∈ s, f i) := by
  classical
  induction s using Finset.induction_on with
  | empty => rw [Finset.sum_empty]; exact zero
  | insert a s ha ih => rw [Finset.sum_insert ha]; exact (h a).add ih
end IsReal

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

theorem of_abs_lt {a : EReal} (h : Max.max a (-a) < ⊤) : IsReal a := by
  induction a using EReal.rec with
  | bot => simp at h
  | coe r => exact ⟨r, rfl⟩
  | top => simp at h

theorem bits_16 : Ideal.ofBits .f32 0x41800000#32 = ((16 : ℝ) : EReal) := by
  simp [Ideal.ofBits, Ideal.ieee, -EReal.coe_mul]; norm_num
theorem bits_16th : Ideal.ofBits .f32 0x3D800000#32 = ((1 / 16 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_eps : ∃ r : ℝ, 0 < r ∧ Ideal.ofBits .f32 0x358637BD#32 = (r : EReal) := by
  refine ⟨2 ^ (-20 : ℤ) * (1 + 407485 / 2 ^ 23), by norm_num, ?_⟩
  simp [Ideal.ofBits, Ideal.ieee, -EReal.coe_mul]; norm_num
theorem bits_scale : IsReal (Ideal.ofBits .f32 0x3DB504F3#32) := by
  refine ⟨2 ^ (-4 : ℤ) * (1 + 3474675 / 2 ^ 23), ?_⟩
  simp [Ideal.ofBits, Ideal.ieee, -EReal.coe_mul]; norm_num

theorem div_coe (a b : ℝ) (hb : b ≠ 0) : Ideal.div (a : EReal) (b : EReal) = ((a / b : ℝ) : EReal) := by
  unfold Ideal.div
  rw [if_neg (by simpa using hb), div_eq_mul_inv, EReal.coe_mul, EReal.coe_inv]

/-- A row of reals is normed to reals, -/
theorem rinv_real {x : Fin 1024 → EReal} (hx : ∀ k, IsReal (x k)) : IsReal (Cert.Mlp.rinv x) := by
  obtain ⟨ε, hε, he⟩ := bits_eps
  choose y hy using hx
  obtain rfl : (fun k => (y k : EReal)) = x := funext hy
  unfold Cert.Mlp.rinv
  rw [he, bits_1024]
  have h : (∑ k, (y k : EReal) * (y k : EReal)) = ((∑ k, y k * y k : ℝ) : EReal) := by
    rw [coe_sum]; exact Finset.sum_congr rfl fun k _ => (EReal.coe_mul _ _).symm
  rw [h, div_coe _ _ (by norm_num), ← EReal.coe_add]
  have hp : 0 < (∑ k, y k * y k) / 1024 + ε := add_pos_of_nonneg_of_pos (div_nonneg (Finset.sum_nonneg fun k _ => mul_self_nonneg (y k)) (by norm_num)) hε
  refine ⟨(√((∑ k, y k * y k) / 1024 + ε))⁻¹, ?_⟩
  show _ = if _ < 0 then ⊥ else if _ = 0 then ⊤ else _
  rw [if_neg (not_lt.mpr hp.le), if_neg hp.ne']
theorem modulated_real {x g sc sh : Fin 1024 → EReal} (hx : ∀ k, IsReal (x k)) (hg : ∀ k, IsReal (g k)) (hsc : ∀ k, IsReal (sc k)) (hsh : ∀ k, IsReal (sh k)) (k : Fin 1024) :
    IsReal (Cert.Mlp.modulated x g sc sh k) :=
  ((((hx k).mul (rinv_real hx)).mul (hg k)).mul (IsReal.one.add (hsc k))).add (hsh k)

/-- The log of a gate, as the kernel takes it -/
def gateK (p : EReal) : EReal := (min p 0 - Ideal.log (1 + Ideal.exp (0 - max p (-p)))) * Ideal.ofBits .f32 0x3D800000#32
/-- and as the reference does. -/
def gateR (p : EReal) : EReal := Ideal.div (-(max (-p) 0 + Ideal.log (1 + Ideal.exp (-(max (-p - 0) (-(-p - 0))))))) (Ideal.ofBits .f32 0x41800000#32)

/-- `x · σ(x)`. -/
def silu (x : EReal) : EReal := x * Ideal.div 1 (1 + Ideal.exp (-x))

/-- The reciprocal root mean square of a head's readings. -/
def rinvH (o : Fin 256 → EReal) : EReal := Ideal.rsqrt (Ideal.div (∑ e, o e * o e) (Ideal.ofBits .f32 0x43800000#32) + Ideal.ofBits .f32 0x358637BD#32)

theorem log_exp (a : ℝ) : Ideal.log (1 + Ideal.exp (a : EReal)) = ((Real.log (1 + Real.exp a) : ℝ) : EReal) := by
  have h : (1 + Ideal.exp (a : EReal) : EReal) = ((1 + Real.exp a : ℝ) : EReal) := (EReal.coe_add 1 (Real.exp a)).symm
  rw [h]
  show (if 1 + Real.exp a ≤ 0 then ⊥ else ((Real.log (1 + Real.exp a) : ℝ) : EReal)) = _
  rw [if_neg (not_le.mpr (by positivity))]

theorem gate_coe (p : ℝ) : gateK p = (((min p 0 - Real.log (1 + Real.exp (-|p|))) * (1 / 16) : ℝ) : EReal) := by
  unfold gateK
  have h : (max (p : EReal) (-(p : EReal))) = ((|p| : ℝ) : EReal) := by
    rw [← EReal.coe_neg, ← coe_max]; rfl
  rw [h, bits_16th, zero_sub, ← EReal.coe_neg, log_exp, ← EReal.coe_zero, ← coe_min, ← EReal.coe_sub, ← EReal.coe_mul]

theorem gate_real {p : EReal} : IsReal p → IsReal (gateK p) := by
  rintro ⟨p, rfl⟩; exact ⟨_, (gate_coe p).symm⟩

theorem gate_eq {p : EReal} : IsReal p → gateR p = gateK p := by
  rintro ⟨p, rfl⟩
  rw [gate_coe]
  unfold gateR
  have h : (max (-(p : EReal) - 0) (-(-(p : EReal) - 0))) = ((|p| : ℝ) : EReal) := by
    rw [sub_zero, neg_neg, ← EReal.coe_neg, ← coe_max, max_comm]; rfl
  rw [h, bits_16, ← EReal.coe_neg |p|, log_exp, ← EReal.coe_neg p, ← EReal.coe_zero, ← coe_max, ← EReal.coe_add, ← EReal.coe_neg, div_coe _ _ (by norm_num)]
  congr 1
  have e : max (-p) 0 = -(min p 0) := by
    rcases le_total p 0 with hp | hp
    · rw [min_eq_left hp, max_eq_left (by linarith)]
    · rw [min_eq_right hp, max_eq_right (by linarith), neg_zero]
  rw [e]
  ring

/-- What is left of the logs after a row: their sum less the sum up to it. -/
theorem rest_eq {l : Fin 64 → EReal} (hl : ∀ s, IsReal (l s)) (t : Fin 64) :
    (∑ s, (if t.val < s.val then (1 : EReal) else 0) * l s) + (∑ s, (if t.val < s.val then (1 : EReal) else 0) * (l s - l s))
      = (∑ s, l s) - ∑ s, if s.val ≤ t.val then l s else 0 := by
  choose y hy using hl
  obtain rfl : (fun k => (y k : EReal)) = l := funext hy
  have h1 : ∀ s : Fin 64, (if t.val < s.val then (1 : EReal) else 0) * (y s : EReal) = ((if t.val < s.val then y s else 0 : ℝ) : EReal) := fun s => by
    split
    · rw [one_mul]
    · rw [zero_mul]; rfl
  have h2 : ∀ s : Fin 64, (if t.val < s.val then (1 : EReal) else 0) * ((y s : EReal) - (y s : EReal)) = 0 := fun s => by
    rw [← EReal.coe_sub, sub_self, EReal.coe_zero, mul_zero]
  have h3 : ∀ s : Fin 64, (if s.val ≤ t.val then (y s : EReal) else 0) = ((if s.val ≤ t.val then y s else 0 : ℝ) : EReal) := fun s => by
    split <;> rfl
  simp only [h1, h2, h3, Finset.sum_const_zero, add_zero]
  rw [← coe_sum, ← coe_sum, ← coe_sum, ← EReal.coe_sub, ← Finset.sum_sub_distrib]
  congr 1
  refine Finset.sum_congr rfl fun s _ => ?_
  by_cases h : t.val < s.val
  · rw [if_pos h, if_neg (by omega), sub_zero]
  · rw [if_neg h, if_pos (by omega), sub_self]

/-- A state read after its update is the update read through the scores, and the state before it through the decay. -/
theorem read_eq {q dec S : Fin 128 → EReal} {v : Fin 64 → EReal} {kd : Fin 64 → Fin 128 → EReal}
    (hq : ∀ d, IsReal (q d)) (hdec : ∀ d, IsReal (dec d)) (hS : ∀ d, IsReal (S d)) (hv : ∀ s, IsReal (v s)) (hkd : ∀ s d, IsReal (kd s d)) :
    (∑ d, q d * (dec d * S d + ∑ s, v s * kd s d)) = (∑ s, (∑ d, q d * kd s d) * v s) + ∑ d, q d * dec d * S d := by
  choose q' hq' using hq
  choose dec' hdec' using hdec
  choose S' hS' using hS
  choose v' hv' using hv
  choose kd' hkd' using hkd
  obtain rfl : (fun d => (q' d : EReal)) = q := funext hq'
  obtain rfl : (fun d => (dec' d : EReal)) = dec := funext hdec'
  obtain rfl : (fun d => (S' d : EReal)) = S := funext hS'
  obtain rfl : (fun d => (v' d : EReal)) = v := funext hv'
  obtain rfl : (fun s d => (kd' s d : EReal)) = kd := funext fun s => funext (hkd' s)
  simp only [← EReal.coe_mul, ← coe_sum, ← EReal.coe_add]
  congr 1
  simp only [mul_add, Finset.sum_add_distrib, Finset.mul_sum, Finset.sum_mul]
  rw [add_comm, Finset.sum_comm]
  congr 1
  · exact Finset.sum_congr rfl fun s _ => Finset.sum_congr rfl fun d _ => by ring
  · exact Finset.sum_congr rfl fun d _ => by ring

end Cert.Gla

end
-- ==== Proof.GlaPay.lean ====
/-
The parts of a block of the gated linear attention at the ideal instance, each read at an index.
-/
module

public import proofs.«01_k».proof.Proof.GlaBody

public import proofs.«01_k».proof.Proof.GlaMath

@[expose] public section

set_option maxRecDepth 16384

noncomputable section

namespace Cert.Kernel4Ideal.Hand

open Cert.Kernel4Ideal.Gen Cert.Mlp Cert.Gla
open Idealize.ShloMosaic Idealize.ShloMosaic.TcCoe Idealize.ShloMosaic.Tactic Idealize.SL.Sem

variable (R : Reads Ideal)

theorem hidV_at (b : Fin 4) (r : Fin 256) (k : Fin 1024) : hidV R b (ix2 r k)
    = modulated (fun k => R.x b (ix3 0 r k)) (fun k => R.g (ix2 0 k)) (fun k => R.mod b 1 (ix3 0 0 k)) (fun k => R.mod b 0 (ix3 0 0 k)) k := by
  pointwise [hidV, k0_pay5, k0_pay4, modulated, rinv]
  simp only [mul_assoc]

theorem pay27_at (h : FVec Ideal S256x1024 .bf16) (w : Vec Ideal S1024x2048 .bf16) (r : Fin 256) (d : Fin 512) :
    k0_pay27 h w (ix2 r d) = (∑ k : Fin 1024, h (ix2 r k) * w (ix2 k ⟨d.val, by omega⟩)) * Ideal.ofBits .f32 0x3DB504F3#32 := by
  pointwise [k0_pay27, k0_pay26]
theorem pay28_at (h : FVec Ideal S256x1024 .bf16) (w : Vec Ideal S1024x2048 .bf16) (r : Fin 256) (d : Fin 512) :
    k0_pay28 h w (ix2 r d) = ∑ k : Fin 1024, h (ix2 r k) * w (ix2 k ⟨512 + d.val, by omega⟩) := by
  pointwise [k0_pay28, k0_pay26]
theorem pay29_at (h : FVec Ideal S256x1024 .bf16) (w : Vec Ideal S1024x2048 .bf16) (r : Fin 256) (e : Fin 1024) :
    k0_pay29 h w (ix2 r e) = ∑ k : Fin 1024, h (ix2 r k) * w (ix2 k ⟨1024 + e.val, by omega⟩) := by
  pointwise [k0_pay29, k0_pay26]
theorem pay30_at (h : FVec Ideal S256x1024 .bf16) (w : Vec Ideal S1024x1024 .bf16) (r : Fin 256) (n : Fin 1024) :
    k0_pay30 h w (ix2 r n) = ∑ k : Fin 1024, h (ix2 r k) * w (ix2 k n) := by
  pointwise [k0_pay30]

theorem pay31_at (h : FVec Ideal S256x1024 .bf16) (wl : Vec Ideal S1024x128 .bf16) (g2 : Vec Ideal S128x512 .bf16) (bg : Vec Ideal S1x512 .f32) (r : Fin 256) (d : Fin 512) :
    k0_pay31 h wl g2 bg (ix2 r d) = gateK ((∑ j : Fin 128, (∑ k : Fin 1024, h (ix2 r k) * wl (ix2 k j)) * g2 (ix2 j d)) + bg (ix2 0 d)) := by
  pointwise [k0_pay31, gateK]
  rfl
theorem pay32_lo (h : FVec Ideal S256x1024 .bf16) (wl : Vec Ideal S1024x128 .bf16) (g2 : Vec Ideal S128x512 .bf16) (bg : Vec Ideal S1x512 .f32) (r : Fin 256) (d : Fin 512) :
    k0_pay32 h wl g2 bg (ix2 r ⟨d.val, by omega⟩) = k0_pay31 h wl g2 bg (ix2 r d) := by
  generalize hA : k0_pay31 h wl g2 bg = A
  have e : k0_pay32 h wl g2 bg = concatenate S256x1024 1 [⟨S256x512, truncf .bf16 A bitsLt_bf16_f32⟩, ⟨S256x512, truncf .bf16 (subf A (extf .f32 (truncf .bf16 A bitsLt_bf16_f32) bitsLt_bf16_f32)) bitsLt_bf16_f32⟩] concatenates_S256x512_S256x512_S256x1024_d1 := by subst hA; rfl
  rw [e]
  pointwise
theorem pay32_hi (h : FVec Ideal S256x1024 .bf16) (wl : Vec Ideal S1024x128 .bf16) (g2 : Vec Ideal S128x512 .bf16) (bg : Vec Ideal S1x512 .f32) (r : Fin 256) (d : Fin 512) :
    k0_pay32 h wl g2 bg (ix2 r ⟨512 + d.val, by omega⟩) = k0_pay31 h wl g2 bg (ix2 r d) - k0_pay31 h wl g2 bg (ix2 r d) := by
  generalize hA : k0_pay31 h wl g2 bg = A
  have e : k0_pay32 h wl g2 bg = concatenate S256x1024 1 [⟨S256x512, truncf .bf16 A bitsLt_bf16_f32⟩, ⟨S256x512, truncf .bf16 (subf A (extf .f32 (truncf .bf16 A bitsLt_bf16_f32) bitsLt_bf16_f32)) bitsLt_bf16_f32⟩] concatenates_S256x512_S256x512_S256x1024_d1 := by subst hA; rfl
  rw [e]
  pointwise

/-- The rows after a row of a chunk. -/
theorem pay42_at (t s : Fin 64) : k0_pay42 (F := Ideal) (ix2 t s) = if t.val < s.val then 1 else 0 := by
  have e : ∀ t s : Fin 64, (BitVec.setWidth 32 (IntOp.cmpi .sgt (BitVec.ofNat 32 s.val) (BitVec.ofNat 32 t.val))).toInt = if t.val < s.val then 1 else 0 := by decide +kernel
  pointwise [k0_pay42]
  show (((BitVec.setWidth 32 (IntOp.cmpi .sgt (BitVec.ofNat 32 s.val) (BitVec.ofNat 32 t.val))).toInt : ℝ) : EReal) = _
  rw [e]
  split <;> simp

theorem kdV_at (k : FVec Ideal S256x512 .f32) (l2 : FVec Ideal S256x1024 .bf16) (c : Fin 4) (t : Fin 64) (d : Fin 512) :
    kdV k l2 c (ix2 t d) = k (ix2 ⟨64 * c.val + t.val, by omega⟩ d) * Ideal.exp ((∑ s : Fin 64, k0_pay42 (F := Ideal) (ix2 t s) * l2 (ix2 ⟨64 * c.val + s.val, by omega⟩ ⟨d.val, by omega⟩))
      + ∑ s : Fin 64, k0_pay42 (F := Ideal) (ix2 t s) * l2 (ix2 ⟨64 * c.val + s.val, by omega⟩ ⟨512 + d.val, by omega⟩)) := by
  unfold kdV
  generalize k0_pay42 (F := Ideal) = U
  pointwise

theorem decV_at (l : FVec Ideal S256x512 .f32) (c : Fin 4) (d : Fin 512) :
    decV l c (ix2 0 d) = Ideal.exp (∑ t : Fin 64, l (ix2 ⟨64 * c.val + t.val, by omega⟩ d)) := by
  pointwise [decV]
theorem kvV_at (v : FVec Ideal S256x1024 .bf16) (kd : FVec Ideal S64x512 .bf16) (c h : Fin 4) (e : Fin 256) (d : Fin 128) :
    kvV v kd c h (ix2 e d) = ∑ t : Fin 64, v (ix2 ⟨64 * c.val + t.val, by omega⟩ ⟨256 * h.val + e.val, by omega⟩) * kd (ix2 t ⟨128 * h.val + d.val, by omega⟩) := by
  pointwise [kvV]
theorem updV_at (dc : FVec Ideal S1x512 .f32) (kv : FVec Ideal S256x128 .f32) (h : Fin 4) (s : Vec Ideal S1x1x256x128 .f32) (e : Fin 256) (d : Fin 128) :
    updV dc kv h s (ix2 e d) = dc (ix2 0 ⟨128 * h.val + d.val, by omega⟩) * s (ix4 0 0 e d) + kv (ix2 e d) := by
  pointwise [updV]
theorem obV_at (q : FVec Ideal S256x512 .bf16) (u : FVec Ideal S256x128 .f32) (c h : Fin 4) (t : Fin 64) (e : Fin 256) :
    obV q u c h (ix2 t e) = ∑ d : Fin 128, q (ix2 ⟨64 * c.val + t.val, by omega⟩ ⟨128 * h.val + d.val, by omega⟩) * u (ix2 e d) := by
  pointwise [obV]

theorem pay379_at (o : Vec Ideal S1x256x256 .f32) (r e : Fin 256) : k0_pay379 o (ix2 r e) = o (ix3 0 r e) * rinvH (fun e => o (ix3 0 r e)) := by
  pointwise [k0_pay379, rinvH]
theorem cat_at (A : Fin 4 → FVec Ideal S256x256 .f32) (r : Fin 256) (h : Fin 4) (e : Fin 256) :
    concatenate S256x1024 1 [⟨S256x256, A 0⟩, ⟨S256x256, A 1⟩, ⟨S256x256, A 2⟩, ⟨S256x256, A 3⟩] concatenates_S256x256_S256x256_S256x256_S256x256_S256x1024_d1 (ix2 r ⟨256 * h.val + e.val, by omega⟩) = A h (ix2 r e) := by
  obtain rfl | rfl | rfl | rfl : h = 0 ∨ h = 1 ∨ h = 2 ∨ h = 3 := by omega
  · pointwise
  · pointwise
  · pointwise
    rw [dif_neg (by omega), dif_neg (by omega), dif_pos (by omega)]
    exact congrArg (fun e => A 2 (ix2 r e)) (Fin.ext (by show 512 + e.val - 256 - 256 = e.val; omega))
  · pointwise
    rw [dif_neg (by omega), dif_neg (by omega), dif_neg (by omega)]
    exact congrArg (fun e => A 3 (ix2 r e)) (Fin.ext (by show 768 + e.val - 256 - 256 - 256 = e.val; omega))
theorem pay380_at (o : Fin 4 → Vec Ideal S1x256x256 .f32) (r : Fin 256) (n : Fin 1024) :
    k0_pay380 (k0_pay379 (o 0)) (o 1) (o 2) (o 3) (ix2 r n) = o ⟨n.val / 256, by omega⟩ (ix3 0 r ⟨n.val % 256, by omega⟩) * rinvH (fun e => o ⟨n.val / 256, by omega⟩ (ix3 0 r e)) := by
  have e : k0_pay380 (k0_pay379 (o 0)) (o 1) (o 2) (o 3) = concatenate S256x1024 1 [⟨S256x256, k0_pay379 (o 0)⟩, ⟨S256x256, k0_pay379 (o 1)⟩, ⟨S256x256, k0_pay379 (o 2)⟩, ⟨S256x256, k0_pay379 (o 3)⟩] concatenates_S256x256_S256x256_S256x256_S256x256_S256x1024_d1 := rfl
  have hn : n = ⟨256 * (n.val / 256) + n.val % 256, by omega⟩ := Fin.ext (by show n.val = 256 * (n.val / 256) + n.val % 256; omega)
  rw [e]
  refine (congrArg _ (congrArg (fun n => ix2 r n) hn)).trans ?_
  exact (cat_at (fun h => k0_pay379 (o h)) r ⟨n.val / 256, by omega⟩ ⟨n.val % 256, by omega⟩).trans (pay379_at _ _ _)

theorem pay382_at (p o g : FVec Ideal S256x1024 .f32) (wo : Vec Ideal S1024x1024 .bf16) (x : Vec Ideal S1x256x1024 .f32) (gt : Vec Ideal S1x1x1024 .f32) (r : Fin 256) (k : Fin 1024) :
    k0_pay382 p o g wo x gt (ix3 0 r k) = x (ix3 0 r k) + gt (ix3 0 0 k) * ∑ n : Fin 1024, o (ix2 r n) * g (ix2 r n) * silu (p (ix2 r n)) * wo (ix2 n k) := by
  pointwise [k0_pay382, silu]
  rfl
theorem pay381_at (g : Vec Ideal S1x1024 .f32) (r : Fin 256) (n : Fin 1024) : k0_pay381 g (ix2 r n) = g (ix2 0 n) := by
  pointwise [k0_pay381]

theorem rowsV_at (b : Fin 4) (o : Fin 4 → Vec Ideal S1x256x256 .f32) (r : Fin 256) (k : Fin 1024) :
    rowsV R b o (ix3 0 r k) = R.x b (ix3 0 r k) + R.mod b 2 (ix3 0 0 k) * ∑ n : Fin 1024,
      o ⟨n.val / 256, by omega⟩ (ix3 0 r ⟨n.val % 256, by omega⟩) * rinvH (fun e => o ⟨n.val / 256, by omega⟩ (ix3 0 r e)) * R.gn (ix2 0 n)
        * silu (∑ j : Fin 1024, hidV R b (ix2 r j) * R.wr (ix2 j n)) * R.wo (ix2 n k) := by
  unfold rowsV
  rw [pay382_at]
  simp only [pay380_at, pay381_at, pay30_at]

end Cert.Kernel4Ideal.Hand

end
-- ==== Proof.GlaSpec.lean ====
/-
Gated linear attention of a layer, as the kernel takes it: row by row, a state per sequence and head carried from chunk to chunk.
-/
module

public import proofs.«01_k».proof.Proof.GlaMath

@[expose] public section

set_option maxRecDepth 16384

noncomputable section

namespace Cert.Gla

open Idealize.ShloMosaic

/-- The arguments of the call. -/
structure Args where
  x : Shape.Idx ⟨3, ![4, 4096, 1024]⟩ → EReal
  mod : Shape.Idx ⟨2, ![4, 6144]⟩ → EReal
  g : Shape.Idx ⟨1, ![1024]⟩ → EReal
  w : Shape.Idx ⟨2, ![1024, 3088]⟩ → EReal
  g2 : Shape.Idx ⟨2, ![16, 512]⟩ → EReal
  bg : Shape.Idx ⟨1, ![512]⟩ → EReal
  gn : Shape.Idx ⟨1, ![1024]⟩ → EReal
  wo : Shape.Idx ⟨2, ![1024, 1024]⟩ → EReal

/-- A row of a chunk, and a head's column among the keys and among the values. -/
def row (n t : Fin 64) : Fin 4096 := ⟨64 * n.val + t.val, by omega⟩
def key (h : Fin 4) (d : Fin 128) : Fin 512 := ⟨128 * h.val + d.val, by omega⟩
def col (h : Fin 4) (e : Fin 256) : Fin 1024 := ⟨256 * h.val + e.val, by omega⟩

namespace Args
variable (A : Args)

/-- A part of a sequence's modulation, -/
def part (j : Fin 6) (b : Fin 4) (k : Fin 1024) : EReal := A.mod (ix2 b ⟨1024 * j.val + k.val, by omega⟩)
/-- a row normed and modulated, -/
def hid (b : Fin 4) (s : Fin 4096) (k : Fin 1024) : EReal := Cert.Mlp.modulated (fun k => A.x (ix3 b s k)) (fun k => A.g (ix1 k)) (A.part 1 b) (A.part 0 b) k
/-- its projection, and that one's parts, -/
def proj (b : Fin 4) (s : Fin 4096) (j : Fin 3088) : EReal := ∑ k : Fin 1024, A.hid b s k * A.w (ix2 k j)
def q (b : Fin 4) (s : Fin 4096) (d : Fin 512) : EReal := A.proj b s ⟨d.val, by omega⟩ * Ideal.ofBits .f32 0x3DB504F3#32
def k (b : Fin 4) (s : Fin 4096) (d : Fin 512) : EReal := A.proj b s ⟨512 + d.val, by omega⟩
def v (b : Fin 4) (s : Fin 4096) (e : Fin 1024) : EReal := A.proj b s ⟨1024 + e.val, by omega⟩
def r (b : Fin 4) (s : Fin 4096) (n : Fin 1024) : EReal := A.proj b s ⟨2064 + n.val, by omega⟩
/-- its gate, -/
def pre (b : Fin 4) (s : Fin 4096) (d : Fin 512) : EReal := (∑ j : Fin 16, A.proj b s ⟨2048 + j.val, by omega⟩ * A.g2 (ix2 j d)) + A.bg (ix1 d)
def la (b : Fin 4) (s : Fin 4096) (d : Fin 512) : EReal := gateK (A.pre b s d)
/-- its key decayed to its chunk's end, -/
def kd (b : Fin 4) (n t : Fin 64) (d : Fin 512) : EReal := A.k b (row n t) d * Ideal.exp ((∑ s : Fin 64, (if t.val < s.val then (1 : EReal) else 0) * A.la b (row n s) d)
  + ∑ s : Fin 64, (if t.val < s.val then (1 : EReal) else 0) * (A.la b (row n s) d - A.la b (row n s) d))
/-- a chunk's decay, -/
def dec (b : Fin 4) (n : Fin 64) (d : Fin 512) : EReal := Ideal.exp (∑ t : Fin 64, A.la b (row n t) d)
/-- the state before a chunk, -/
def st : ℕ → Fin 4 → Fin 4 → Fin 256 → Fin 128 → EReal
  | 0 => fun _ _ _ _ => 0
  | n + 1 => fun b h e d => A.dec b ⟨n % 64, Nat.mod_lt _ (by decide)⟩ (key h d) * st n b h e d
      + ∑ t : Fin 64, A.v b (row ⟨n % 64, Nat.mod_lt _ (by decide)⟩ t) (col h e) * A.kd b ⟨n % 64, Nat.mod_lt _ (by decide)⟩ t (key h d)
/-- what a row reads from the state after its chunk, -/
def o (b : Fin 4) (n t : Fin 64) (h : Fin 4) (e : Fin 256) : EReal := ∑ d : Fin 128, A.q b (row n t) (key h d) * A.st (n.val + 1) b h e d
/-- and a row of the result, of what was read. -/
def out (o : Fin 4 → Fin 64 → Fin 64 → Fin 4 → Fin 256 → EReal) (b : Fin 4) (s : Fin 4096) (k : Fin 1024) : EReal :=
  A.x (ix3 b s k) + A.part 2 b k * ∑ n : Fin 1024,
    o b ⟨s.val / 64, by omega⟩ ⟨s.val % 64, by omega⟩ ⟨n.val / 256, by omega⟩ ⟨n.val % 256, by omega⟩ * rinvH (fun e => o b ⟨s.val / 64, by omega⟩ ⟨s.val % 64, by omega⟩ ⟨n.val / 256, by omega⟩ e)
      * A.gn (ix1 n) * silu (A.r b s n) * A.wo (ix2 n k)

end Args

end Cert.Gla

end
-- ==== Proof.GlaKer.lean ====
/-
What a point of the gated linear attention call leaves, in the call's arguments: its rows of the result and the states after it.
-/
module

public import proofs.«01_k».proof.Proof.GlaFold

public import proofs.«01_k».proof.Proof.GlaPay
public import proofs.«01_k».proof.Proof.GlaSpec
public import Idealize.ShloMosaic.Lib.WholeRead

@[expose] public section

set_option maxRecDepth 16384

noncomputable section

namespace Cert.Kernel4Ideal.Hand

open Cert.Kernel4Ideal.Gen Cert.Gla
open Idealize.ShloMosaic Idealize.ShloMosaic.TcCoe Idealize.ShloMosaic.Tactic Idealize.SL.Sem
open Idealize.ShloMosaic.Pipeline (Dat Cfg Window)

/-- The windows' blocks at a point: 256 rows of each sequence, and every weight whole. -/
theorem indices : ∀ t : Fin grid0.N, win0_0.index t = ![0, t.val, 0] ∧ win0_1.index t = ![0, 0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, t.val, 0] := by
  decide +kernel

theorem pad_lo (X : S16x512.Idx → EReal) (z : S_.Idx → EReal) (j : Fin 16) (d : Fin 512) :
    pad S128x512 ![0, 0] ![112, 0] ![0, 0] X z pads_S16x512_S128x512_01120_000 h_S_ (ix2 ⟨j.val, by omega⟩ d) = X (ix2 j d) := by
  pointwise
theorem pad_hi (X : S16x512.Idx → EReal) (j : Fin 112) (d : Fin 512) :
    pad S128x512 ![0, 0] ![112, 0] ![0, 0] X (sitofp (F := Ideal) .f32 (constantI S_ 32 0#32) : S_.Idx → EReal) pads_S16x512_S128x512_01120_000 h_S_ (ix2 ⟨16 + j.val, by omega⟩ d) = 0 := by
  pointwise
  exact show ((((0#32 : BitVec 32).toInt : ℝ)) : EReal) = 0 by simp
theorem part_at (X : S4x6144.Idx → EReal) (b : Fin 4) (j : Fin 6) (k : Fin 1024) : shapeCast S4x6x1024 X shapeCasts_S4x6144_S4x6x1024 (ix3 b j k) = X (ix2 b ⟨1024 * j.val + k.val, by omega⟩) := by
  pointwise
  simp only [Nat.mul_comm]
theorem line_at (X : S1024.Idx → EReal) (k : Fin 1024) : shapeCast S1x1024 X shapeCasts_S1024_S1x1024 (ix2 0 k) = X (ix1 k) := by
  pointwise
theorem line512_at (X : S512.Idx → EReal) (k : Fin 512) : shapeCast S1x512 X shapeCasts_S512_S1x512 (ix2 0 k) = X (ix1 k) := by
  pointwise

variable (m : (ℓ : Loc nD τ sig) → Buf (Elt Ideal) ℓ) (c : Dev nD)

/-- The call's arguments. -/
def args : Args where
  x := (m ((c : Thread nD τ).loc main_arg0) : S4x4096x1024.Idx → EReal)
  mod := (m ((c : Thread nD τ).loc main_arg1) : S4x6144.Idx → EReal)
  g := (m ((c : Thread nD τ).loc main_arg2) : S1024.Idx → EReal)
  w := (m ((c : Thread nD τ).loc main_arg3) : S1024x3088.Idx → EReal)
  g2 := (m ((c : Thread nD τ).loc main_arg4) : S16x512.Idx → EReal)
  bg := (m ((c : Thread nD τ).loc main_arg5) : S512.Idx → EReal)
  gn := (m ((c : Thread nD τ).loc main_arg6) : S1024.Idx → EReal)
  wo := (m ((c : Thread nD τ).loc main_arg7) : S1024x1024.Idx → EReal)

theorem V_v1 : V m c main_v1 = (truncf (F := Ideal) .bf16 (pad S128x512 ![0, 0] ![112, 0] ![0, 0] (m ((c : Thread nD τ).loc main_arg4) : S16x512.Idx → EReal) (sitofp (F := Ideal) .f32 (constantI S_ 32 0#32)) pads_S16x512_S128x512_01120_000 h_S_ : FVec Ideal S128x512 .f32) bitsLt_bf16_f32 : S128x512.Idx → EReal) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl
theorem V_v2 : V m c main_v2 = shapeCast S4x6x1024 (m ((c : Thread nD τ).loc main_arg1) : S4x6144.Idx → EReal) shapeCasts_S4x6144_S4x6x1024 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl
theorem V_v3 : V m c main_v3 = (m ((c : Thread nD τ).loc main_arg3) : S1024x3088.Idx → EReal) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl
theorem V_v4 : V m c main_v4 = (m ((c : Thread nD τ).loc main_arg7) : S1024x1024.Idx → EReal) := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl
theorem V_v5 : V m c main_v5 = shapeCast S1x1024 (m ((c : Thread nD τ).loc main_arg2) : S1024.Idx → EReal) shapeCasts_S1024_S1x1024 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl
theorem V_v6 : V m c main_v6 = shapeCast S1x512 (m ((c : Thread nD τ).loc main_arg5) : S512.Idx → EReal) shapeCasts_S512_S1x512 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl
theorem V_v7 : V m c main_v7 = shapeCast S1x1024 (m ((c : Thread nD τ).loc main_arg6) : S1024.Idx → EReal) shapeCasts_S1024_S1x1024 := by
  simp only [V, hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  all_goals rfl

variable (t : Fin cfg0.N)

/-- A row of a point's block, and a chunk of it. -/
def rowAt (r : Fin 256) : Fin 4096 := ⟨t.val * 256 + r.val, by have := t.isLt; have : cfg0.N = 16 := N_0; omega⟩
def chunkAt (j : Fin 4) : Fin 64 := ⟨4 * t.val + j.val, by have := t.isLt; have : cfg0.N = 16 := N_0; omega⟩

theorem row_eq (j : Fin 4) (s : Fin 64) : row (chunkAt t j) s = rowAt t ⟨64 * j.val + s.val, by omega⟩ :=
  Fin.ext (by show 64 * (4 * t.val + j.val) + s.val = t.val * 256 + (64 * j.val + s.val); omega)

theorem iblk0_at (b : Fin 4) (r : Fin 256) (k : Fin 1024) : (iblk m c 0 t : S4x256x1024.Idx → EReal) (ix3 b r k) = (args m c).x (ix3 b (rowAt t r) k) := by
  blk_simp [iblk, indices t]
  entry_read
  unfold rowAt
  refine congrArg (args m c).x ?_
  blk_ext [indices t]
theorem iblk1_at (b : Fin 4) (j : Fin 6) (k : Fin 1024) : (iblk m c 1 t : S4x6x1024.Idx → EReal) (ix3 b j k) = (args m c).part j b k := by
  blk_simp [iblk, indices t]
  have e : ((win0_1.blk t).view.emb (ix3 b j k) : S4x6x1024.Idx) = ix3 b j k := by
    blk_ext [indices t]
  exact (congrArg (V m c main_v2 : S4x6x1024.Idx → EReal) e).trans ((congrFun (V_v2 m c) _).trans (part_at _ _ _ _))
theorem iblk2_at (k : Fin 1024) : (iblk m c 2 t : S1x1024.Idx → EReal) (ix2 0 k) = (args m c).g (ix1 k) := by
  blk_simp [iblk, indices t]
  have e : ((win0_2.blk t).view.emb (ix2 0 k) : S1x1024.Idx) = ix2 0 k := by
    blk_ext [indices t]
  exact (congrArg (V m c main_v5 : S1x1024.Idx → EReal) e).trans ((congrFun (V_v5 m c) _).trans (line_at _ _))
theorem iblk3_at (k : Fin 1024) (j : Fin 3088) : (iblk m c 3 t : S1024x3088.Idx → EReal) (ix2 k j) = (args m c).w (ix2 k j) := by
  blk_simp [iblk, indices t]
  have e : ((win0_3.blk t).view.emb (ix2 k j) : S1024x3088.Idx) = ix2 k j := by
    blk_ext [indices t]
  exact (congrArg (V m c main_v3 : S1024x3088.Idx → EReal) e).trans (congrFun (V_v3 m c) _)
theorem iblk4_at (j : Fin 128) (d : Fin 512) : (iblk m c 4 t : S128x512.Idx → EReal) (ix2 j d) = (V m c main_v1 : S128x512.Idx → EReal) (ix2 j d) := by
  blk_simp [iblk, indices t]
  have e : ((win0_4.blk t).view.emb (ix2 j d) : S128x512.Idx) = ix2 j d := by
    blk_ext [indices t]
  exact (congrArg (V m c main_v1 : S128x512.Idx → EReal) e).trans (rfl)
theorem iblk5_at (d : Fin 512) : (iblk m c 5 t : S1x512.Idx → EReal) (ix2 0 d) = (args m c).bg (ix1 d) := by
  blk_simp [iblk, indices t]
  have e : ((win0_5.blk t).view.emb (ix2 0 d) : S1x512.Idx) = ix2 0 d := by
    blk_ext [indices t]
  exact (congrArg (V m c main_v6 : S1x512.Idx → EReal) e).trans ((congrFun (V_v6 m c) _).trans (line512_at _ _))
theorem iblk6_at (k : Fin 1024) : (iblk m c 6 t : S1x1024.Idx → EReal) (ix2 0 k) = (args m c).gn (ix1 k) := by
  blk_simp [iblk, indices t]
  have e : ((win0_6.blk t).view.emb (ix2 0 k) : S1x1024.Idx) = ix2 0 k := by
    blk_ext [indices t]
  exact (congrArg (V m c main_v7 : S1x1024.Idx → EReal) e).trans ((congrFun (V_v7 m c) _).trans (line_at _ _))
theorem iblk7_at (n : Fin 1024) (k : Fin 1024) : (iblk m c 7 t : S1024x1024.Idx → EReal) (ix2 n k) = (args m c).wo (ix2 n k) := by
  blk_simp [iblk, indices t]
  have e : ((win0_7.blk t).view.emb (ix2 n k) : S1024x1024.Idx) = ix2 n k := by
    blk_ext [indices t]
  exact (congrArg (V m c main_v4 : S1024x1024.Idx → EReal) e).trans (congrFun (V_v4 m c) _)

variable (wr : Vec Ideal S1024x1024 .bf16)

theorem read_x (b : Fin 4) (r : Fin 256) (k : Fin 1024) : (readsAt m c t wr).x b (ix3 0 r k) = (args m c).x (ix3 b (rowAt t r) k) := by
  refine ((hs0_0 t).readAt_unread (iblk m c 0 t) _ _).trans ((congrArg (iblk m c 0 t : S4x256x1024.Idx → EReal) (?_ : _ = ix3 b r k)).trans (iblk0_at m c t b r k))
  exact funext fun a => Fin.ext (by
    match a with
      | ⟨0, _⟩ => show b.val + 1 * 0 = b.val; omega
      | ⟨1, _⟩ => show 0 + 1 * r.val = r.val; omega
      | ⟨2, _⟩ => show 0 + 1 * k.val = k.val; omega)
theorem read_mod (b : Fin 4) (j : Fin 3) (k : Fin 1024) : (readsAt m c t wr).mod b j (ix3 0 0 k) = (args m c).part ⟨j.val, by omega⟩ b k := by
  refine ((hs0_1 t).readAt_unread (iblk m c 1 t) _ _).trans ((congrArg (iblk m c 1 t : S4x6x1024.Idx → EReal) (?_ : _ = ix3 b ⟨j.val, by omega⟩ k)).trans (iblk1_at m c t b _ k))
  exact funext fun a => Fin.ext (by
    match a with
      | ⟨0, _⟩ => show b.val + 1 * 0 = b.val; omega
      | ⟨1, _⟩ => show j.val + 1 * 0 = j.val; omega
      | ⟨2, _⟩ => show 0 + 1 * k.val = k.val; omega)
theorem read_g (k : Fin 1024) : (readsAt m c t wr).g (ix2 0 k) = (args m c).g (ix1 k) := by
  refine ((hs0_2 t).readAt_unread (iblk m c 2 t) _ _).trans ((congrArg (iblk m c 2 t : S1x1024.Idx → EReal) (?_ : _ = ix2 0 k)).trans (iblk2_at m c t k))
  exact funext fun a => Fin.ext (by
    match a with
      | ⟨0, _⟩ => show 0 + 1 * 0 = 0; omega
      | ⟨1, _⟩ => show 0 + 1 * k.val = k.val; omega)
theorem read_w (k : Fin 1024) (j : Fin 2048) : (readsAt m c t wr).w (ix2 k j) = (args m c).w (ix2 k ⟨j.val, by omega⟩) := by
  refine ((hs0_3 t).readAt_unread (iblk m c 3 t) _ _).trans ((congrArg (iblk m c 3 t : S1024x3088.Idx → EReal) (?_ : _ = ix2 k ⟨j.val, by omega⟩)).trans (iblk3_at m c t k _))
  exact funext fun a => Fin.ext (by
    match a with
      | ⟨0, _⟩ => show 0 + 1 * k.val = k.val; omega
      | ⟨1, _⟩ => show 0 + 1 * j.val = j.val; omega)
theorem read_wl (k : Fin 1024) (j : Fin 128) : (readsAt m c t wr).wl (ix2 k j) = (args m c).w (ix2 k ⟨2048 + j.val, by omega⟩) := by
  refine ((hs0_3 t).readAt_unread (iblk m c 3 t) _ _).trans ((congrArg (iblk m c 3 t : S1024x3088.Idx → EReal) (?_ : _ = ix2 k ⟨2048 + j.val, by omega⟩)).trans (iblk3_at m c t k _))
  exact funext fun a => Fin.ext (by
    match a with
      | ⟨0, _⟩ => show 0 + 1 * k.val = k.val; omega
      | ⟨1, _⟩ => show 2048 + 1 * j.val = 2048 + j.val; omega)
theorem read_g2 (j : Fin 128) (d : Fin 512) : (readsAt m c t wr).g2 (ix2 j d) = (V m c main_v1 : S128x512.Idx → EReal) (ix2 j d) := by
  refine ((hs0_4 t).readAt_unread (iblk m c 4 t) _ _).trans ((congrArg (iblk m c 4 t : S128x512.Idx → EReal) (?_ : _ = ix2 j d)).trans (iblk4_at m c t j d))
  exact funext fun a => Fin.ext (by
    match a with
      | ⟨0, _⟩ => show 0 + 1 * j.val = j.val; omega
      | ⟨1, _⟩ => show 0 + 1 * d.val = d.val; omega)
theorem read_bg (d : Fin 512) : (readsAt m c t wr).bg (ix2 0 d) = (args m c).bg (ix1 d) := by
  refine ((hs0_5 t).readAt_unread (iblk m c 5 t) _ _).trans ((congrArg (iblk m c 5 t : S1x512.Idx → EReal) (?_ : _ = ix2 0 d)).trans (iblk5_at m c t d))
  exact funext fun a => Fin.ext (by
    match a with
      | ⟨0, _⟩ => show 0 + 1 * 0 = 0; omega
      | ⟨1, _⟩ => show 0 + 1 * d.val = d.val; omega)
theorem read_gn (k : Fin 1024) : (readsAt m c t wr).gn (ix2 0 k) = (args m c).gn (ix1 k) := by
  refine ((hs0_6 t).readAt_unread (iblk m c 6 t) _ _).trans ((congrArg (iblk m c 6 t : S1x1024.Idx → EReal) (?_ : _ = ix2 0 k)).trans (iblk6_at m c t k))
  exact funext fun a => Fin.ext (by
    match a with
      | ⟨0, _⟩ => show 0 + 1 * 0 = 0; omega
      | ⟨1, _⟩ => show 0 + 1 * k.val = k.val; omega)
theorem read_wo (n k : Fin 1024) : (readsAt m c t wr).wo (ix2 n k) = (args m c).wo (ix2 n k) := by
  refine ((hs0_7 t).readAt_unread (iblk m c 7 t) _ _).trans ((congrArg (iblk m c 7 t : S1024x1024.Idx → EReal) (?_ : _ = ix2 n k)).trans (iblk7_at m c t n k))
  exact funext fun a => Fin.ext (by
    match a with
      | ⟨0, _⟩ => show 0 + 1 * n.val = n.val; omega
      | ⟨1, _⟩ => show 0 + 1 * k.val = k.val; omega)

theorem sum_pad (f G : Fin 128 → EReal) (h : ∀ j : Fin 112, G ⟨16 + j.val, by omega⟩ = 0) : (∑ j, f j * G j) = ∑ j : Fin 16, f ⟨j.val, by omega⟩ * G ⟨j.val, by omega⟩ := by
  refine (Fin.sum_univ_add (a := 16) (b := 112) (fun j => f j * G j)).trans ?_
  have hz : (∑ j : Fin 112, f (Fin.natAdd 16 j) * G (Fin.natAdd 16 j)) = 0 := Finset.sum_eq_zero fun j _ => by
    rw [show G (Fin.natAdd 16 j) = 0 from h j, mul_zero]
  exact (congrArg (_ + ·) hz).trans (add_zero _)

theorem g2_lo (j : Fin 16) (d : Fin 512) : (V m c main_v1 : S128x512.Idx → EReal) (ix2 ⟨j.val, by omega⟩ d) = (args m c).g2 (ix2 j d) :=
  (congrFun (V_v1 m c) _).trans (pad_lo _ _ j d)
theorem g2_hi (j : Fin 112) (d : Fin 512) : (V m c main_v1 : S128x512.Idx → EReal) (ix2 ⟨16 + j.val, by omega⟩ d) = (0 : EReal) :=
  (congrFun (V_v1 m c) _).trans (pad_hi _ j d)

/-! ## The parts of a block in the arguments -/

variable (b : Fin 4)

theorem hid_at (r : Fin 256) (k : Fin 1024) : hidV (readsAt m c t wr) b (ix2 r k) = (args m c).hid b (rowAt t r) k := by
  rw [hidV_at]
  simp only [read_x, read_g, read_mod]
  rfl
theorem q_at (r : Fin 256) (d : Fin 512) : k0_pay27 (hidV (readsAt m c t wr) b) (readsAt m c t wr).w (ix2 r d) = (args m c).q b (rowAt t r) d := by
  rw [pay27_at]
  simp only [hid_at, read_w]
  rfl
theorem k_at (r : Fin 256) (d : Fin 512) : k0_pay28 (hidV (readsAt m c t wr) b) (readsAt m c t wr).w (ix2 r d) = (args m c).k b (rowAt t r) d := by
  rw [pay28_at]
  simp only [hid_at, read_w]
  rfl
theorem v_at (r : Fin 256) (e : Fin 1024) : k0_pay29 (hidV (readsAt m c t wr) b) (readsAt m c t wr).w (ix2 r e) = (args m c).v b (rowAt t r) e := by
  rw [pay29_at]
  simp only [hid_at, read_w]
  rfl
theorem la_at (r : Fin 256) (d : Fin 512) : laV (readsAt m c t wr) b (ix2 r d) = (args m c).la b (rowAt t r) d := by
  unfold laV
  rw [pay31_at]
  simp only [hid_at, read_wl, read_g2, read_bg]
  rw [sum_pad _ _ (fun j => g2_hi m c j d)]
  exact congrArg gateK (congrArg (· + (args m c).bg (ix1 d)) (Finset.sum_congr rfl fun j _ => congrArg ((args m c).proj b (rowAt t r) ⟨2048 + j.val, by omega⟩ * ·) (g2_lo m c j d)))
theorem la2_lo (r : Fin 256) (d : Fin 512) (h : d.val < 1024) : la2V (readsAt m c t wr) b (ix2 r ⟨d.val, h⟩) = (args m c).la b (rowAt t r) d :=
  (pay32_lo _ _ _ _ r d).trans (la_at m c t wr b r d)
theorem la2_hi (r : Fin 256) (d : Fin 512) (h : 512 + d.val < 1024) : la2V (readsAt m c t wr) b (ix2 r ⟨512 + d.val, h⟩) = (args m c).la b (rowAt t r) d - (args m c).la b (rowAt t r) d :=
  (pay32_hi _ _ _ _ r d).trans (congrArg₂ (· - ·) (la_at m c t wr b r d) (la_at m c t wr b r d))
theorem kd_at (j : Fin 4) (s : Fin 64) (d : Fin 512) : kdR (readsAt m c t wr) b j (ix2 s d) = (args m c).kd b (chunkAt t j) s d := by
  unfold kdR
  rw [kdV_at]
  simp only [pay42_at, k_at, la2_lo, la2_hi, Args.kd, row_eq]
theorem step_at (j h : Fin 4) (s : Vec Ideal S1x1x256x128 .f32) (e : Fin 256) (d : Fin 128) : stepV (readsAt m c t wr) b j h s (ix2 e d)
    = (args m c).dec b (chunkAt t j) (key h d) * s (ix4 0 0 e d) + ∑ s : Fin 64, (args m c).v b (row (chunkAt t j) s) (col h e) * (args m c).kd b (chunkAt t j) s (key h d) := by
  unfold stepV
  rw [updV_at, decV_at, kvV_at]
  simp only [la_at, v_at, kd_at, Args.dec, row_eq]
  rfl

theorem shapeCast_state (X : S256x128.Idx → EReal) (e : Fin 256) (d : Fin 128) : shapeCast S1x1x256x128 X shapeCasts_S256x128_S1x1x256x128 (ix4 0 0 e d) = X (ix2 e d) := by
  pointwise

section Point
variable (first : Fin 4 → Fin 4 → Vec Ideal S1x1x256x128 .f32) (hf : ∀ b h e d, first b h (ix4 0 0 e d) = (args m c).st (4 * t.val) b h e d)
include hf

/-- The states that a point goes through, -/
theorem state_at : ∀ j ≤ 4, ∀ b h e d, stateV (readsAt m c t wr) first j b h (ix4 0 0 e d) = (args m c).st (4 * t.val + j) b h e d := by
  intro j
  induction j with
  | zero => intro _; exact hf
  | succ j ih =>
    intro hj b h e d
    have e1 : chunkAt t ⟨j % 4, Nat.mod_lt _ (by decide)⟩ = ⟨(4 * t.val + j) % 64, Nat.mod_lt _ (by decide)⟩ :=
      Fin.ext (by show 4 * t.val + j % 4 = (4 * t.val + j) % 64; have := t.isLt; have : cfg0.N = 16 := N_0; omega)
    show shapeCast S1x1x256x128 (stepV (readsAt m c t wr) b ⟨j % 4, Nat.mod_lt _ (by decide)⟩ h (stateV (readsAt m c t wr) first j b h)) shapeCasts_S256x128_S1x1x256x128 (ix4 0 0 e d) = _
    rw [shapeCast_state, step_at, ih (by omega), e1]
    rfl

/-- and what the queries read. -/
theorem out_at (j h : Fin 4) (s : Fin 64) (e : Fin 256) : outV (readsAt m c t wr) b j h (stateV (readsAt m c t wr) first j.val b h) (ix2 s e) = (args m c).o b (chunkAt t j) s h e := by
  unfold outV
  rw [obV_at]
  unfold Args.o
  refine Finset.sum_congr rfl fun d _ => ?_
  rw [q_at, row_eq]
  have e2 : stepV (readsAt m c t wr) b j h (stateV (readsAt m c t wr) first j.val b h) (ix2 e d) = (args m c).st (4 * t.val + (j.val + 1)) b h e d := by
    rw [← state_at m c t wr first hf (j.val + 1) (by omega) b h e d]
    refine (shapeCast_state _ e d).symm.trans ?_
    show _ = shapeCast S1x1x256x128 (stepV (readsAt m c t wr) b ⟨j.val % 4, Nat.mod_lt _ (by decide)⟩ h (stateV (readsAt m c t wr) first j.val b h)) shapeCasts_S256x128_S1x1x256x128 (ix4 0 0 e d)
    rw [show (⟨j.val % 4, Nat.mod_lt _ (by decide)⟩ : Fin 4) = j from Fin.ext (Nat.mod_eq_of_lt j.isLt)]
  rw [e2]
  rfl

variable (v : View sig .tc .vmem S4x4x256x128 .f32) (L : List (View.Piece (Elt Ideal) S4x4x256x128 .f32)) (Vn : ℕ → Vec Ideal S1x1x256x128 .f32)
  (hL : ∀ n < 64, L.drop (63 - n) = pieceS (readsAt m c t wr) n (Vn n) :: L.drop (64 - n))
  (h0 : ∀ n < 16, Vn n = first (bN n) (hN n))
  (h1 : ∀ n < 64, 16 ≤ n → Vn n = v.readCov (L.drop (64 - n)) (rectS (bN n) (hN n)).toLoadRect)
include hL h0 h1

theorem point_state (h : Fin 4) (e : Fin 256) (d : Fin 128) : v.read (Elt Ideal) (v.writes (Elt Ideal) v.junk L) (ix4 b h e d) = (args m c).st (4 * (t.val + 1)) b h e d :=
  (state_after _ first v L Vn hL h0 h1 b h e d).trans (state_at m c t wr first hf 4 (le_refl _) b h e d)

theorem point_rows (hwr : ∀ k n : Fin 1024, wr (ix2 k n) = (args m c).w (ix2 k ⟨2064 + n.val, by omega⟩)) (w w1 : View sig .tc .vmem S4x256x1024 .f32) (T Q : List (View.Piece (Elt Ideal) S4x256x1024 .f32))
    (hT : ∀ n < 64, T.drop (63 - n) = pieceO (readsAt m c t wr) n (Vn n) :: T.drop (64 - n))
    (hQ : Q = List.map (fun b => pieceR (readsAt m c t wr) b (fun h => w1.readCov T (rectR b h).toLoadRect)) [3, 2, 1, 0]) (r : Fin 256) (k : Fin 1024) :
    w.read (Elt Ideal) (w.writes (Elt Ideal) w.junk Q) (ix3 b r k) = (args m c).out (args m c).o b (rowAt t r) k := by
  rw [rows_after _ w (fun b h => w1.readCov T (rectR b h).toLoadRect) Q hQ, rowsV_at]
  have ho : ∀ (h : Fin 4) (e : Fin 256), (w1.readCov T (rectR b h).toLoadRect : Vec Ideal S1x256x256 .f32) (ix3 0 r e) = (args m c).o b ⟨(rowAt t r).val / 64, by omega⟩ ⟨(rowAt t r).val % 64, by omega⟩ h e := fun h e => by
    have hr : (rectR b h).toLoadRect.idx (ix3 0 r e) = ix3 b ⟨64 * (r.val / 64) + r.val % 64, by omega⟩ ⟨256 * h.val + e.val, by omega⟩ := funext fun a => Fin.ext (by
      match a with
      | ⟨0, _⟩ => show b.val + 1 * 0 = b.val; omega
      | ⟨1, _⟩ => show 0 + 1 * r.val = 64 * (r.val / 64) + r.val % 64; omega
      | ⟨2, _⟩ => show 256 * h.val + 1 * e.val = 256 * h.val + e.val; omega)
    refine (congrArg (w1.read (Elt Ideal) (w1.writes (Elt Ideal) w1.junk T)) hr).trans ?_
    refine (reading_after _ first v L Vn hL h0 h1 w1 T hT b ⟨r.val / 64, by omega⟩ h ⟨r.val % 64, by omega⟩ e).trans ((out_at m c t wr b first hf ⟨r.val / 64, by omega⟩ h ⟨r.val % 64, by omega⟩ e).trans ?_)
    rw [show chunkAt t ⟨r.val / 64, by omega⟩ = ⟨(rowAt t r).val / 64, by omega⟩ from Fin.ext (by show 4 * t.val + r.val / 64 = (t.val * 256 + r.val) / 64; omega),
      show (⟨r.val % 64, by omega⟩ : Fin 64) = ⟨(rowAt t r).val % 64, by omega⟩ from Fin.ext (by show r.val % 64 = (t.val * 256 + r.val) % 64; omega)]
  simp only [ho, hid_at, read_x, read_mod, read_gn, read_wo]
  have hr : ∀ n : Fin 1024, (∑ j : Fin 1024, (args m c).hid b (rowAt t r) j * (readsAt m c t wr).wr (ix2 j n)) = (args m c).r b (rowAt t r) n := fun n =>
    Finset.sum_congr rfl fun j _ => congrArg ((args m c).hid b (rowAt t r) j * ·) (hwr j n)
  simp only [hr]
  rfl

end Point

end Cert.Kernel4Ideal.Hand

end
-- ==== Proof.GlaRunA.lean ====
/-
The stores of a point of the gated linear attention, one update after the other: the generated run's lists, by the functions of GlaBody.
-/
module

public import proofs.«01_k».proof.Proof.GlaBody

@[expose] public section

set_option maxRecDepth 16384

noncomputable section

namespace Cert.Kernel4Ideal.Hand

open Cert.Kernel4Ideal.Gen
open Idealize.ShloMosaic Idealize.ShloMosaic.TcCoe Idealize.ShloMosaic.Tactic Idealize.SL.Sem

variable {F : FTy → Type} [FloatOps F]
variable (m : (ℓ : Loc nD τ sig) → Buf (Elt F) ℓ) (c : Dev nD) (t : Fin cfg0.N)

section A
variable (h0 : t.val % 16 = 0)

/-- The stores of the first point, -/
def runA := kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t)
abbrev statesA := (runA m c t h0).2.1
abbrev readingsA := (runA m c t h0).2.2.2.val

/-- and what it reads. -/
def readsA : Reads F := readsAt m c t (scM0_2.view.readCov [⟨Rect.unit (s := S1024x1024) ![0, 0] S1024x1024.size inb_S1024x1024_S1024x1024_0_0, k0_pay3 (View.readAt (Elt F) (ms0_3 t).view (Rect.unit (s := S1024x3088) ![0, 2064] S1024x1024.size inb_S1024x3088_S1024x1024_0_2064).toLoadRect ((hs0_3 t).unread (iblk m c 3 t)))⟩] (Rect.unit (s := S1024x1024) ![0, 0] S1024x1024.size inb_S1024x1024_S1024x1024_0_0).toLoadRect)

theorem gateA : (runA m c t h0).2.2.1 = [⟨Rect.unit (s := S1024x1024) ![0, 0] S1024x1024.size inb_S1024x1024_S1024x1024_0_0, k0_pay3 (View.readAt (Elt F) (ms0_3 t).view (Rect.unit (s := S1024x3088) ![0, 2064] S1024x1024.size inb_S1024x3088_S1024x1024_0_2064).toLoadRect ((hs0_3 t).unread (iblk m c 3 t)))⟩] := by sl_kernel_rfl

theorem states_nextA : ∀ n < 64, List.drop (63 - n) (statesA m c t h0) = pieceS (readsA m c t) n (scM0_0.view.readCov (List.drop (64 - n) (statesA m c t h0)) (rectS (bN n) (hN n)).toLoadRect) :: List.drop (64 - n) (statesA m c t h0) := by
  intro n hn
  interval_cases n <;> sl_kernel_rfl

theorem states_lastA : List.drop 64 (statesA m c t h0) = [⟨Rect.unit (s := S4x4x256x128) ![0, 0, 0, 0] S4x4x256x128.size inb_S4x4x256x128_S4x4x256x128_0_0_0_0, k0_pay2⟩] := by sl_kernel_rfl

theorem readings_nextA : ∀ n < 64, List.drop (63 - n) (readingsA m c t h0) = pieceO (readsA m c t) n (scM0_0.view.readCov (List.drop (64 - n) (statesA m c t h0)) (rectS (bN n) (hN n)).toLoadRect) :: List.drop (64 - n) (readingsA m c t h0) := by
  intro n hn
  interval_cases n <;> sl_kernel_rfl

theorem readings_lastA : List.drop 64 (readingsA m c t h0) = [] := by sl_kernel_rfl

theorem rowsA : (runA m c t h0).1 = (List.map (fun b => pieceR (readsA m c t) b (fun h => scM0_1.view.readCov (readingsA m c t h0) (rectR b h).toLoadRect)) [3, 2, 1, 0]) := by sl_kernel_rfl

end A

end Cert.Kernel4Ideal.Hand

end
-- ==== Proof.GlaRunB.lean ====
/-
The stores of a point of the gated linear attention, one update after the other: the generated run's lists, by the functions of GlaBody.
-/
module

public import proofs.«01_k».proof.Proof.GlaBody

@[expose] public section

set_option maxRecDepth 16384

noncomputable section

namespace Cert.Kernel4Ideal.Hand

open Cert.Kernel4Ideal.Gen
open Idealize.ShloMosaic Idealize.ShloMosaic.TcCoe Idealize.ShloMosaic.Tactic Idealize.SL.Sem

variable {F : FTy → Type} [FloatOps F]
variable (m : (ℓ : Loc nD τ sig) → Buf (Elt F) ℓ) (c : Dev nD) (t : Fin cfg0.N)

section B
variable (h0 : ¬t.val % 16 = 0) (xs0 : Vec F S4x4x256x128 .f32) (xs2 : Vec F S1024x1024 .bf16)

/-- The stores of a later point, -/
def runB := kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) xs0 xs2
abbrev statesB := (runB m c t h0 xs0 xs2).2.1
abbrev readingsB := (runB m c t h0 xs0 xs2).2.2.2.val

/-- what it reads, -/
def readsB : Reads F := readsAt m c t (View.readAt (Elt F) scM0_2.view (Rect.unit (s := S1024x1024) ![0, 0] S1024x1024.size inb_S1024x1024_S1024x1024_0_0).toLoadRect ((Memref.isWhole_whole _).unread xs2))
/-- and a head's state before it. -/
def firstB (b h : Fin 4) : Vec F S1x1x256x128 .f32 := View.readAt (Elt F) scM0_0.view (rectS b h).toLoadRect ((Memref.isWhole_whole _).unread xs0)

theorem states_firstB : ∀ n < 16, List.drop (63 - n) (statesB m c t h0 xs0 xs2) = pieceS (readsB m c t xs2) n (firstB xs0 (bN n) (hN n)) :: List.drop (64 - n) (statesB m c t h0 xs0 xs2) := by
  intro n hn
  interval_cases n <;> sl_kernel_rfl

theorem states_nextB : ∀ n < 64, 16 ≤ n → List.drop (63 - n) (statesB m c t h0 xs0 xs2) = pieceS (readsB m c t xs2) n (scM0_0.view.readCov (List.drop (64 - n) (statesB m c t h0 xs0 xs2)) (rectS (bN n) (hN n)).toLoadRect) :: List.drop (64 - n) (statesB m c t h0 xs0 xs2) := by
  intro n hn h
  interval_cases n <;> sl_kernel_rfl

theorem states_lastB : List.drop 64 (statesB m c t h0 xs0 xs2) = [] := by sl_kernel_rfl

theorem readings_firstB : ∀ n < 16, List.drop (63 - n) (readingsB m c t h0 xs0 xs2) = pieceO (readsB m c t xs2) n (firstB xs0 (bN n) (hN n)) :: List.drop (64 - n) (readingsB m c t h0 xs0 xs2) := by
  intro n hn
  interval_cases n <;> sl_kernel_rfl

theorem readings_nextB : ∀ n < 64, 16 ≤ n → List.drop (63 - n) (readingsB m c t h0 xs0 xs2) = pieceO (readsB m c t xs2) n (scM0_0.view.readCov (List.drop (64 - n) (statesB m c t h0 xs0 xs2)) (rectS (bN n) (hN n)).toLoadRect) :: List.drop (64 - n) (readingsB m c t h0 xs0 xs2) := by
  intro n hn h
  interval_cases n <;> sl_kernel_rfl

theorem readings_lastB : List.drop 64 (readingsB m c t h0 xs0 xs2) = [] := by sl_kernel_rfl

theorem rowsB : (runB m c t h0 xs0 xs2).1 = (List.map (fun b => pieceR (readsB m c t xs2) b (fun h => scM0_1.view.readCov (readingsB m c t h0 xs0 xs2) (rectR b h).toLoadRect)) [3, 2, 1, 0]) := by sl_kernel_rfl

end B

end Cert.Kernel4Ideal.Hand

end
-- ==== Proof.GlaCall.lean ====
/-
The gated linear attention call's result at the ideal instance: by induction over the points of the grid, the states that each point finds are those of the chunks before it.
-/
module

public import proofs.«01_k».proof.Proof.GlaKer

public import proofs.«01_k».proof.Proof.GlaRunA
public import proofs.«01_k».proof.Proof.GlaRunB
public import Idealize.ShloMosaic.Lib.VecWindow

@[expose] public section

set_option maxRecDepth 16384

noncomputable section

namespace Cert.Kernel4Ideal.Hand

open Cert.Kernel4Ideal.Gen Cert.Gla
open Idealize.ShloMosaic Idealize.ShloMosaic.TcCoe Idealize.ShloMosaic.Tactic Idealize.SL.Sem
open Idealize.ShloMosaic.Pipeline (Dat Cfg Window)

section Parts
variable {F : FTy → Type} [FloatOps F] (m : (ℓ : Loc nD τ sig) → Buf (Elt F) ℓ) (c : Dev nD) (t : Fin cfg0.N)

/-- What the first point leaves is what its run wrote, -/
theorem outA (h0 : t.val % 16 = 0) : (outsAt0 m c t.val t.isLt).1 = VO0_8.read (Elt F) (VO0_8.writes (Elt F) VO0_8.junk (runA m c t h0).1) := by
  rw [outsAt0_A m c t h0]; unfold out0_A_8 runA; dsimp only
theorem stateA (h0 : t.val % 16 = 0) : (outsAt0 m c t.val t.isLt).2.1 = scM0_0.view.read (Elt F) (scM0_0.view.writes (Elt F) scM0_0.view.junk (statesA m c t h0)) := by
  rw [outsAt0_A m c t h0]; unfold sout0_A_0 statesA runA; dsimp only
theorem wrA (h0 : t.val % 16 = 0) : (outsAt0 m c t.val t.isLt).2.2 = scM0_2.view.read (Elt F) (scM0_2.view.writes (Elt F) scM0_2.view.junk (runA m c t h0).2.2.1) := by
  rw [outsAt0_A m c t h0]; unfold sout0_A_2 runA; dsimp only

/-- and so of every later point, from what the one before it left. -/
theorem outB (h0 : ¬t.val % 16 = 0) (h : t.val - 1 < cfg0.N) : (outsAt0 m c t.val t.isLt).1 = VO0_8.read (Elt F) (VO0_8.writes (Elt F) VO0_8.junk (runB m c t h0 (outsAt0 m c (t.val - 1) h).2.1 (outsAt0 m c (t.val - 1) h).2.2).1) := by
  rw [outsAt0_B m c t h0]; unfold out0_B_8 runB; dsimp only
theorem stateB (h0 : ¬t.val % 16 = 0) (h : t.val - 1 < cfg0.N) : (outsAt0 m c t.val t.isLt).2.1 = scM0_0.view.read (Elt F) (scM0_0.view.writes (Elt F) scM0_0.view.junk (statesB m c t h0 (outsAt0 m c (t.val - 1) h).2.1 (outsAt0 m c (t.val - 1) h).2.2)) := by
  rw [outsAt0_B m c t h0]; unfold sout0_B_0 statesB runB; dsimp only
theorem wrB (h0 : ¬t.val % 16 = 0) (h : t.val - 1 < cfg0.N) : (outsAt0 m c t.val t.isLt).2.2 = (outsAt0 m c (t.val - 1) h).2.2 := by
  rw [outsAt0_B m c t h0]; rfl

end Parts

variable (m : (ℓ : Loc nD τ sig) → Buf (Elt Ideal) ℓ) (c : Dev nD) (t : Fin cfg0.N)

theorem zeros_at (x : S4x4x256x128.Idx) : k0_pay2 (F := Ideal) x = (0 : EReal) := by
  pointwise [k0_pay2]
theorem same_at (X : Vec Ideal S1024x1024 .bf16) (x : S1024x1024.Idx) : k0_pay3 X x = X x := by
  obtain ⟨a, b, rfl⟩ : ∃ a b, x = ix2 a b := ⟨_, _, eq_ix2 x⟩
  pointwise [k0_pay3]

theorem idx_whole (x : S1024x1024.Idx) : (Rect.unit (s := S1024x1024) ![0, 0] S1024x1024.size inb_S1024x1024_S1024x1024_0_0).toLoadRect.idx x = x := funext fun a => Fin.ext (by
  match a with
  | ⟨0, _⟩ => show 0 + 1 * (x 0).val = (x 0).val; omega
  | ⟨1, _⟩ => show 0 + 1 * (x 1).val = (x 1).val; omega)
theorem idx_state (b h : Fin 4) (e : Fin 256) (d : Fin 128) : (rectS b h).toLoadRect.idx (ix4 0 0 e d) = ix4 b h e d := funext fun a => Fin.ext (by
  match a with
  | ⟨0, _⟩ => show b.val + 1 * 0 = b.val; omega
  | ⟨1, _⟩ => show h.val + 1 * 0 = h.val; omega
  | ⟨2, _⟩ => show 0 + 1 * e.val = e.val; omega
  | ⟨3, _⟩ => show 0 + 1 * d.val = d.val; omega)

/-- The gate's columns of the projection, as a point loads them. -/
theorem gate_cols (k n : Fin 1024) : (View.readAt (Elt Ideal) (ms0_3 t).view (Rect.unit (s := S1024x3088) ![0, 2064] S1024x1024.size inb_S1024x3088_S1024x1024_0_2064).toLoadRect ((hs0_3 t).unread (iblk m c 3 t)) : S1024x1024.Idx → EReal) (ix2 k n) = (args m c).w (ix2 k ⟨2064 + n.val, by omega⟩) := by
  refine (Memref.IsWhole.readAt_unread (hs0_3 t) (iblk m c 3 t) _ _).trans ((congrArg (iblk m c 3 t : S1024x3088.Idx → EReal) (?_ : _ = ix2 k ⟨2064 + n.val, by omega⟩)).trans (iblk3_at m c t k _))
  exact funext fun a => Fin.ext (by
    match a with
    | ⟨0, _⟩ => show 0 + 1 * k.val = k.val; omega
    | ⟨1, _⟩ => show 2064 + 1 * n.val = 2064 + n.val; omega)

/-- What a point leaves: its states, the gate's weights and its rows. -/
def Leaves (n : ℕ) (hn : n < cfg0.N) : Prop :=
  (∀ b h e d, (outsAt0 m c n hn).2.1 (ix4 b h e d) = (args m c).st (4 * (n + 1)) b h e d)
  ∧ (∀ k j : Fin 1024, (outsAt0 m c n hn).2.2 (ix2 k j) = (args m c).w (ix2 k ⟨2064 + j.val, by omega⟩))
  ∧ ∀ b r k, (outsAt0 m c n hn).1 (ix3 b r k) = (args m c).out (args m c).o b (rowAt ⟨n, hn⟩ r) k

/-- The states the first point starts from. -/
def firstA (b h : Fin 4) : Vec Ideal S1x1x256x128 .f32 := fun x => k0_pay2 (F := Ideal) ((rectS b h).toLoadRect.idx x)

theorem leaves_first (h0 : t.val % 16 = 0) (ht : t.val = 0) : Leaves m c t.val t.isLt := by
  have hwr : ∀ k n : Fin 1024, (scM0_2.view.readCov [⟨Rect.unit (s := S1024x1024) ![0, 0] S1024x1024.size inb_S1024x1024_S1024x1024_0_0, k0_pay3 (View.readAt (Elt Ideal) (ms0_3 t).view (Rect.unit (s := S1024x3088) ![0, 2064] S1024x1024.size inb_S1024x3088_S1024x1024_0_2064).toLoadRect ((hs0_3 t).unread (iblk m c 3 t)))⟩] (Rect.unit (s := S1024x1024) ![0, 0] S1024x1024.size inb_S1024x1024_S1024x1024_0_0).toLoadRect : Vec Ideal S1024x1024 .bf16) (ix2 k n) = (args m c).w (ix2 k ⟨2064 + n.val, by omega⟩) := fun k n => by
    rw [View.readCov_full]
    exact (same_at _ _).trans (gate_cols m c t k n)
  have hf : ∀ b h e d, firstA b h (ix4 0 0 e d) = (args m c).st (4 * t.val) b h e d := fun b h e d => by
    rw [ht]
    exact zeros_at _
  have h1 : ∀ n < 64, 16 ≤ n → (fun n => scM0_0.view.readCov (List.drop (64 - n) (statesA m c t h0)) (rectS (bN n) (hN n)).toLoadRect) n = scM0_0.view.readCov (List.drop (64 - n) (statesA m c t h0)) (rectS (bN n) (hN n)).toLoadRect := fun _ _ _ => rfl
  have hz : ∀ n < 16, (fun n => scM0_0.view.readCov (List.drop (64 - n) (statesA m c t h0)) (rectS (bN n) (hN n)).toLoadRect) n = firstA (bN n) (hN n) := fun n hn => by
    funext x
    have hx0 : (x 0).val < 1 := (x 0).isLt
    have hx1 : (x 1).val < 1 := (x 1).isLt
    refine (read_miss scM0_0.view scM0_0.view.junk (statesA m c t h0) 64 (fun n => inbS (bN n) (hN n)) (fun n => shapeCast S1x1x256x128 (stepV (readsA m c t) (bN n) (cN n) (hN n) (scM0_0.view.readCov (List.drop (64 - n) (statesA m c t h0)) (rectS (bN n) (hN n)).toLoadRect)) shapeCasts_S256x128_S1x1x256x128)
      (states_nextA m c t h0) ((rectS (bN n) (hN n)).toLoadRect.idx x) n (by omega) fun i hi => ?_).trans ?_
    · by_cases hc : i % 4 = n % 4
      · exact ⟨0, by show n / 4 % 4 + 1 * (x 0).val < i / 4 % 4 ∨ i / 4 % 4 + 1 ≤ n / 4 % 4 + 1 * (x 0).val; omega⟩
      · exact ⟨1, by show n % 4 + 1 * (x 1).val < i % 4 ∨ i % 4 + 1 ≤ n % 4 + 1 * (x 1).val; omega⟩
    · show _ = k0_pay2 (F := Ideal) ((rectS (bN n) (hN n)).toLoadRect.idx x)
      rw [states_lastA, View.read_writes_full]
  refine ⟨fun b h e d => ?_, fun k j => ?_, fun b r k => ?_⟩
  · rw [stateA m c t h0]
    exact point_state m c t _ b firstA hf scM0_0.view _ _ (states_nextA m c t h0) hz h1 h e d
  · rw [wrA m c t h0, gateA, View.read_writes_full]
    exact (same_at _ _).trans (gate_cols m c t k j)
  · rw [outA m c t h0]
    exact point_rows m c t _ b firstA hf scM0_0.view _ _ (states_nextA m c t h0) hz h1 hwr VO0_8 scM0_1.view _ _ (readings_nextA m c t h0) (rowsA m c t h0) r k

theorem leaves_next (h0 : ¬t.val % 16 = 0) (h : t.val - 1 < cfg0.N) (ih : Leaves m c (t.val - 1) h) : Leaves m c t.val t.isLt := by
  obtain ⟨i0, i2, -⟩ := ih
  generalize hx0 : (outsAt0 m c (t.val - 1) h).2.1 = xs0 at i0
  generalize hx2 : (outsAt0 m c (t.val - 1) h).2.2 = xs2 at i2
  have h4 : 4 * (t.val - 1 + 1) = 4 * t.val := by omega
  rw [h4] at i0
  have hwr : ∀ k n : Fin 1024, (View.readAt (Elt Ideal) scM0_2.view (Rect.unit (s := S1024x1024) ![0, 0] S1024x1024.size inb_S1024x1024_S1024x1024_0_0).toLoadRect ((Memref.isWhole_whole _).unread xs2) : Vec Ideal S1024x1024 .bf16) (ix2 k n) = (args m c).w (ix2 k ⟨2064 + n.val, by omega⟩) := fun k n =>
    ((Memref.isWhole_whole _ : scM0_2.IsWhole).readAt_unread xs2 _ _).trans ((congrArg xs2 (idx_whole _)).trans (i2 k n))
  have hf : ∀ b h e d, firstB xs0 b h (ix4 0 0 e d) = (args m c).st (4 * t.val) b h e d := fun b h e d =>
    ((Memref.isWhole_whole _ : scM0_0.IsWhole).readAt_unread xs0 _ _).trans ((congrArg xs0 (idx_state b h e d)).trans (i0 b h e d))
  have hz : ∀ n < 16, (fun n => if n < 16 then firstB xs0 (bN n) (hN n) else scM0_0.view.readCov (List.drop (64 - n) (statesB m c t h0 xs0 xs2)) (rectS (bN n) (hN n)).toLoadRect) n = firstB xs0 (bN n) (hN n) := fun n hn => if_pos hn
  have h1 : ∀ n < 64, 16 ≤ n → (fun n => if n < 16 then firstB xs0 (bN n) (hN n) else scM0_0.view.readCov (List.drop (64 - n) (statesB m c t h0 xs0 xs2)) (rectS (bN n) (hN n)).toLoadRect) n = scM0_0.view.readCov (List.drop (64 - n) (statesB m c t h0 xs0 xs2)) (rectS (bN n) (hN n)).toLoadRect := fun n _ hn => if_neg (by omega)
  have hL : ∀ n < 64, List.drop (63 - n) (statesB m c t h0 xs0 xs2) = pieceS (readsB m c t xs2) n ((fun n => if n < 16 then firstB xs0 (bN n) (hN n) else scM0_0.view.readCov (List.drop (64 - n) (statesB m c t h0 xs0 xs2)) (rectS (bN n) (hN n)).toLoadRect) n) :: List.drop (64 - n) (statesB m c t h0 xs0 xs2) := fun n hn => by
    by_cases h : n < 16
    · rw [hz n h]; exact states_firstB m c t h0 xs0 xs2 n h
    · rw [h1 n hn (by omega)]; exact states_nextB m c t h0 xs0 xs2 n hn (by omega)
  have hT : ∀ n < 64, List.drop (63 - n) (readingsB m c t h0 xs0 xs2) = pieceO (readsB m c t xs2) n ((fun n => if n < 16 then firstB xs0 (bN n) (hN n) else scM0_0.view.readCov (List.drop (64 - n) (statesB m c t h0 xs0 xs2)) (rectS (bN n) (hN n)).toLoadRect) n) :: List.drop (64 - n) (readingsB m c t h0 xs0 xs2) := fun n hn => by
    by_cases h : n < 16
    · rw [hz n h]; exact readings_firstB m c t h0 xs0 xs2 n h
    · rw [h1 n hn (by omega)]; exact readings_nextB m c t h0 xs0 xs2 n hn (by omega)
  refine ⟨fun b h' e d => ?_, fun k j => ?_, fun b r k => ?_⟩
  · rw [stateB m c t h0 h, hx0, hx2]
    exact point_state m c t _ b (firstB xs0) hf scM0_0.view _ _ hL hz h1 h' e d
  · rw [wrB m c t h0 h, hx2]
    exact i2 k j
  · rw [outB m c t h0 h, hx0, hx2]
    exact point_rows m c t _ b (firstB xs0) hf scM0_0.view _ _ hL hz h1 hwr VO0_8 scM0_1.view _ _ hT (rowsB m c t h0 xs0 xs2) r k

theorem leaves : ∀ n (hn : n < cfg0.N), Leaves m c n hn := by
  intro n
  induction n with
  | zero => intro hn; exact leaves_first m c ⟨0, hn⟩ rfl rfl
  | succ n ih =>
    intro hn
    have hN : cfg0.N = 16 := N_0
    exact leaves_next m c ⟨n + 1, hn⟩ (by show ¬(n + 1) % 16 = 0; omega) (by show n + 1 - 1 < cfg0.N; omega) (ih (by omega))

/-- The result in the arguments. -/
def result : S4x4096x1024.Idx → EReal := fun i => (args m c).out (args m c).o (i 0) (i 1) (i 2)

theorem final_rows : (dats m 0 c).arrAt 8 cfg0.N = result m c := by
  refine (dats m 0 c).arrAt_eq_of_covers 8 _ (by decide +kernel) fun t hf y => ?_
  have hy : (y : S4x256x1024.Idx) = ix3 (y 0) (y 1) (y 2) := eq_ix3 (y : S4x256x1024.Idx)
  have e : (outsAt0 m c t.val t.isLt).1 (ix3 (y 0) (y 1) (y 2)) = result m c (ix3 (y 0) (rowAt t (y 1)) (y 2)) := (leaves m c t.val t.isLt).2.2 (y 0) (y 1) (y 2)
  refine ((congrFun (after0_8 m c t) y).trans ((congrArg (outsAt0 m c t.val t.isLt).1 hy).trans e)).trans (congrArg (result m c) ?_)
  unfold rowAt
  blk_ext [indices t]

variable (ρ : Dev nD → PrngReg)

theorem run_result : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (final_rows m c), h.2 c⟩)
    (θ_run_and (run_main m ρ) (unchanged m ρ))

end Cert.Kernel4Ideal.Hand

end
-- ==== Proof.GlaRef.lean ====
/-
The gated linear attention reference's operations at the ideal instance, stretch by stretch and at an index.
-/
module

public import proofs.«01_k».proof.Proof.Frame4

public import proofs.«01_k».proof.Proof.GlaSpec
public import Idealize.ShloMosaic.Lib.Pointwise

@[expose] public section

set_option maxRecDepth 16384

noncomputable section

namespace Cert.Reference4Ideal.Hand

open Cert.Reference4Ideal Cert.Reference4Ideal.Gen Cert.Reference4Ideal.Value Cert.Mlp Cert.Gla
open Idealize.ShloMosaic Idealize.ShloMosaic.TcCoe Idealize.SL.Sem Idealize.ShloMosaic.StableHlo

/-! ## The operations, stretch by stretch -/

/-- The reciprocal root mean square of every row, -/
def rmsOf (x : FVec Ideal S4x4096x1024 .f32) : FVec Ideal S4x4096x1024 .f32 :=
  broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32))))
/-- a row of weights on every row, -/
def onRows (g : FVec Ideal S1024 .f32) : FVec Ideal S4x4096x1024 .f32 :=
  broadcastInDim S4x4096x1024 ![0, 1, 2] bcast_S1x1x1024_S4x4096x1024_0_1_2 (broadcastInDim S1x1x1024 ![2] bcast_S1024_S1x1x1024_2 g)
/-- the rows normed and modulated, -/
def modOf (x : FVec Ideal S4x4096x1024 .f32) (mod : FVec Ideal S4x6144 .f32) (g : FVec Ideal S1024 .f32) : FVec Ideal S4x4096x1024 .f32 :=
  addf (mulf (mulf (mulf x (rmsOf x)) (onRows g))
      (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] mod slices_S4x6144_S4x1024_0_1024)))))
    (broadcastInDim S4x4096x1024 ![0, 1, 2] bcast_S4x1x1024_S4x4096x1024_0_1_2 (broadcastInDim S4x1x1024 ![0, 2] bcast_S4x1024_S4x1x1024_0_2 (extractStridedSlice S4x1024 ![0, 0] mod slices_S4x6144_S4x1024_0_0)))
/-- their projection, -/
def projOf (y : FVec Ideal S4x4096x1024 .f32) (w : FVec Ideal S1024x3088 .f32) : FVec Ideal S4x4096x3088 .f32 :=
  Host.dotGeneral (F := Ideal) dot_S4x4096x1024_S1024x3088_S4x4096x3088_2_0_01_1_n_n none y w
/-- what the gate is taken of, -/
def preOf (p : FVec Ideal S4x4096x3088 .f32) (g2 : FVec Ideal S16x512 .f32) (bg : FVec Ideal S512 .f32) : FVec Ideal S4x4096x512 .f32 :=
  addf (Host.dotGeneral (F := Ideal) dot_S4x4096x16_S16x512_S4x4096x512_2_0_01_1_n_n none (extractStridedSlice S4x4096x16 ![0, 0, 2048] p slices_S4x4096x3088_S4x4096x16_0_0_2048) g2) (broadcastInDim S4x4096x512 ![0, 1, 2] bcast_S1x1x512_S4x4096x512_0_1_2 (broadcastInDim S1x1x512 ![2] bcast_S512_S1x1x512_2 bg))
/-- zeros, and the gate's log before it is divided, -/
def zOf : FVec Ideal S4x4096x512 .f32 := broadcastInDim S4x4096x512 ![] bcast_S_S4x4096x512 (constant S_ .f32 0x00000000#32)
def gateOf (p : FVec Ideal S4x4096x512 .f32) : FVec Ideal S4x4096x512 .f32 :=
  Host.negf (select (cmpf .une (subf (Host.negf p) zOf) (subf (Host.negf p) zOf)) (addf (Host.negf p) zOf) (addf (maximumf (Host.negf p) zOf) (Host.log1p (Host.exp (Host.negf (Host.absf (subf (Host.negf p) zOf)))))))
def laOf (l : FVec Ideal S4x4096x512 .f32) : FVec Ideal S4x4096x512 .f32 := Host.divf l (broadcastInDim S4x4096x512 ![] bcast_S_S4x4096x512 (constant S_ .f32 0x41800000#32))
/-- heads and chunks apart, -/
def headsOf (x : FVec Ideal S4x4096x512 .f32) : FVec Ideal S4x4x64x64x128 .f32 :=
  transpose S4x4x64x64x128 [0, 3, 1, 2, 4] (shapeCast S4x64x64x4x128 x shapeCasts_S4x4096x512_S4x64x64x4x128) transposes_S4x64x64x4x128_S4x4x64x64x128_0_3_1_2_4
def heads256Of (x : FVec Ideal S4x4096x1024 .f32) : FVec Ideal S4x4x64x64x256 .f32 :=
  transpose S4x4x64x64x256 [0, 3, 1, 2, 4] (shapeCast S4x64x64x4x256 x shapeCasts_S4x4096x1024_S4x64x64x4x256) transposes_S4x64x64x4x256_S4x4x64x64x256_0_3_1_2_4
def qOf (x : FVec Ideal S4x4096x512 .f32) : FVec Ideal S4x4x64x64x128 .f32 := mulf (headsOf x) (broadcastInDim S4x4x64x64x128 ![] bcast_S_S4x4x64x64x128 (constant S_ .f32 0x3DB504F3#32))
/-- the logs summed along a chunk, -/
def cumOf (x : FVec Ideal S4x4x64x64x128 .f32) : FVec Ideal S4x4x64x64x128 .f32 :=
  Host.reduceWindowAdd ![1, 1, 1, 64, 1] ![1, 1, 1, 1, 1] ![0, 0, 0, 63, 0] ![0, 0, 0, 0, 0] x (broadcastInDim S_ ![] bcast_S_S_ (constant S_ .f32 0x00000000#32)) reduceWindows_S4x4x64x64x128_S4x4x64x64x128_w1s1p0_0_w1s1p0_0_w1s1p0_0_w64s1p63_0_w1s1p0_0 h_S_
def totOf (u : FVec Ideal S4x4x64x64x128 .f32) : FVec Ideal S4x4x64x1x128 .f32 := extractStridedSlice S4x4x64x1x128 ![0, 0, 0, 63, 0] u slices_S4x4x64x64x128_S4x4x64x1x128_0_0_0_63_0
/-- keys decayed to their chunk's end, -/
def kdOf (k u : FVec Ideal S4x4x64x64x128 .f32) : FVec Ideal S4x4x64x64x128 .f32 :=
  mulf k (Host.exp (subf (broadcastInDim S4x4x64x64x128 ![0, 1, 2, 3, 4] bcast_S4x4x64x1x128_S4x4x64x64x128_0_1_2_3_4 (totOf u)) u))
/-- readings within a chunk, -/
def inOf (q kd : FVec Ideal S4x4x64x64x128 .f32) (v : FVec Ideal S4x4x64x64x256 .f32) : FVec Ideal S4x4x64x64x256 .f32 :=
  Host.dotGeneral (F := Ideal) dot_S4x4x64x64x64_S4x4x64x64x256_S4x4x64x64x256_4_3_3_4_012_012 none (Host.dotGeneral (F := Ideal) dot_S4x4x64x64x128_S4x4x64x64x128_S4x4x64x64x64_4_4_3_3_012_012 none q kd) v
/-- each chunk's update and its decay, chunks first, -/
def kvOf (kd : FVec Ideal S4x4x64x64x128 .f32) (v : FVec Ideal S4x4x64x64x256 .f32) : FVec Ideal S64x4x4x128x256 .f32 :=
  transpose S64x4x4x128x256 [2, 0, 1, 3, 4] (Host.dotGeneral (F := Ideal) dot_S4x4x64x64x128_S4x4x64x64x256_S4x4x64x128x256_3_3_4_4_012_012 none kd v) transposes_S4x4x64x128x256_S64x4x4x128x256_2_0_1_3_4
def decOf (t : FVec Ideal S4x4x64x1x128 .f32) : FVec Ideal S64x4x4x128 .f32 :=
  transpose S64x4x4x128 [2, 0, 1, 3] (Host.exp (shapeCast S4x4x64x128 t shapeCasts_S4x4x64x1x128_S4x4x64x128)) transposes_S4x4x64x128_S64x4x4x128_2_0_1_3
/-- readings with those of the states before, -/
def allOf (s : FVec Ideal S64x4x4x128x256 .f32) (t : FVec Ideal S4x4x64x1x128 .f32) (q : FVec Ideal S4x4x64x64x128 .f32) (i : FVec Ideal S4x4x64x64x256 .f32) : FVec Ideal S4x4x64x64x256 .f32 :=
  addf i (Host.dotGeneral (F := Ideal) dot_S4x4x64x64x128_S4x4x64x128x256_S4x4x64x64x256_4_3_3_4_012_012 none (mulf q (broadcastInDim S4x4x64x64x128 ![0, 1, 2, 3, 4] bcast_S4x4x64x1x128_S4x4x64x64x128_0_1_2_3_4 (Host.exp t))) (transpose S4x4x64x128x256 [1, 2, 0, 3, 4] s transposes_S64x4x4x128x256_S4x4x64x128x256_1_2_0_3_4))
/-- normed head by head and back in rows, -/
def backOf (o : FVec Ideal S4x4x64x64x256 .f32) : FVec Ideal S4x4096x1024 .f32 :=
  shapeCast S4x4096x1024 (transpose S4x64x64x4x256 [0, 2, 3, 1, 4] (mulf o (broadcastInDim S4x4x64x64x256 ![0, 1, 2, 3, 4] bcast_S4x4x64x64x1_S4x4x64x64x256_0_1_2_3_4 (Host.rsqrt (addf (Host.divf (broadcastInDim S4x4x64x64x1 ![0, 1, 2, 3] bcast_S4x4x64x64_S4x4x64x64x1_0_1_2_3 (Host.reduceAdd (mulf o o) (constant S_ .f32 0x00000000#32) reducesTo_S4x4x64x64x256_S4x4x64x64_d4 h_S_)) (broadcastInDim S4x4x64x64x1 ![] bcast_S_S4x4x64x64x1 (constant S_ .f32 0x43800000#32))) (broadcastInDim S4x4x64x64x1 ![] bcast_S_S4x4x64x64x1 (constant S_ .f32 0x358637BD#32)))))) transposes_S4x4x64x64x256_S4x64x64x4x256_0_2_3_1_4) shapeCasts_S4x64x64x4x256_S4x4096x1024
/-- the output gate, -/
def siluOf (r : FVec Ideal S4x4096x1024 .f32) : FVec Ideal S4x4096x1024 .f32 :=
  mulf r (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf r))))
/-- and the gated output added. -/
def outOf (x : FVec Ideal S4x4096x1024 .f32) (md : FVec Ideal S4x1024 .f32) (o r : FVec Ideal S4x4096x1024 .f32) (wo : FVec Ideal S1024x1024 .f32) : FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 md)) (Host.dotGeneral (F := Ideal) dot_S4x4096x1024_S1024x1024_S4x4096x1024_2_0_01_1_n_n none (mulf o r) wo))

variable (W : Valuation τ sig (Elt Ideal))

/-- The projection that the first stretch makes. -/
def projW : FVec Ideal S4x4096x3088 .f32 := projOf (modOf (W (Proc.devRef .tc main_arg0)) (W (Proc.devRef .tc main_arg1)) (W (Proc.devRef .tc main_arg2))) (W (Proc.devRef .tc main_arg3))

theorem s0_v2 : after hostOps0 W (Proc.devRef .tc main_v2) = extractStridedSlice (s := S4x6144) S4x1024 ![0, 2048] (W (Proc.devRef .tc main_arg1)) slices_S4x6144_S4x1024_0_2048 := by
  after_results
  all_goals rfl
theorem s0_v28 : after hostOps0 W (Proc.devRef .tc main_v28) = extractStridedSlice S4x4096x512 ![0, 0, 0] (projW W) slices_S4x4096x3088_S4x4096x512_0_0_0 := by
  after_results
  all_goals rfl
theorem s0_v29 : after hostOps0 W (Proc.devRef .tc main_v29) = extractStridedSlice S4x4096x512 ![0, 0, 512] (projW W) slices_S4x4096x3088_S4x4096x512_0_0_512 := by
  after_results
  all_goals rfl
theorem s0_v30 : after hostOps0 W (Proc.devRef .tc main_v30) = extractStridedSlice S4x4096x1024 ![0, 0, 1024] (projW W) slices_S4x4096x3088_S4x4096x1024_0_0_1024 := by
  after_results
  all_goals rfl
theorem s0_v32 : after hostOps0 W (Proc.devRef .tc main_v32) = extractStridedSlice S4x4096x1024 ![0, 0, 2064] (projW W) slices_S4x4096x3088_S4x4096x1024_0_0_2064 := by
  after_results
  all_goals rfl
theorem s0_v36 : after hostOps0 W (Proc.devRef .tc main_v36) = preOf (projW W) (W (Proc.devRef .tc main_arg4)) (W (Proc.devRef .tc main_arg5)) := by
  after_results
  all_goals rfl
theorem s1_v37 : after hostOps0_1 W (Proc.devRef .tc main_v37) = gateOf (W (Proc.devRef .tc main_v36)) := by
  after_results
  all_goals rfl
theorem s2_v43 : after hostOps0_2 W (Proc.devRef .tc main_v43) = qOf (W (Proc.devRef .tc main_v28)) := by
  after_results
  all_goals rfl
theorem s2_v45 : after hostOps0_2 W (Proc.devRef .tc main_v45) = headsOf (W (Proc.devRef .tc main_v29)) := by
  after_results
  all_goals rfl
theorem s2_v47 : after hostOps0_2 W (Proc.devRef .tc main_v47) = heads256Of (W (Proc.devRef .tc main_v30)) := by
  after_results
  all_goals rfl
theorem s2_v49 : after hostOps0_2 W (Proc.devRef .tc main_v49) = headsOf (laOf (W (Proc.devRef .tc main_v37))) := by
  after_results
  all_goals rfl
theorem s3_v50 : after hostOps0_3 W (Proc.devRef .tc main_v50) = cumOf (W (Proc.devRef .tc main_v49)) := by
  after_results
  all_goals rfl
theorem s4_v51 : after hostOps0_4 W (Proc.devRef .tc main_v51) = totOf (W (Proc.devRef .tc main_v50)) := by
  after_results
  all_goals rfl
theorem s4_v57 : after hostOps0_4 W (Proc.devRef .tc main_v57) = inOf (W (Proc.devRef .tc main_v43)) (kdOf (W (Proc.devRef .tc main_v45)) (W (Proc.devRef .tc main_v50))) (W (Proc.devRef .tc main_v47)) := by
  after_results
  all_goals rfl
theorem s4_v65_0 : after hostOps0_4 W (Proc.devRef .tc main_v65_0) = kvOf (kdOf (W (Proc.devRef .tc main_v45)) (W (Proc.devRef .tc main_v50))) (W (Proc.devRef .tc main_v47)) := by
  after_results
  all_goals rfl
theorem s4_v65_1 : after hostOps0_4 W (Proc.devRef .tc main_v65_1) = decOf (totOf (W (Proc.devRef .tc main_v50))) := by
  after_results
  all_goals rfl
theorem s4_v65_3 : after hostOps0_4 W (Proc.devRef .tc main_v65_3) = broadcastInDim S4x4x128x256 ![] bcast_S_S4x4x128x256 (constant (F := Ideal) S_ .f32 0x00000000#32) := by
  after_results
  all_goals rfl
theorem s5_v86 : after hostOps0_5 W (Proc.devRef .tc main_v86) = mulf (F := Ideal) (backOf (allOf (W (Proc.devRef .tc main_v65_4)) (W (Proc.devRef .tc main_v51)) (W (Proc.devRef .tc main_v43)) (W (Proc.devRef .tc main_v57)))) (onRows (W (Proc.devRef .tc main_arg6))) := by
  after_results
  all_goals rfl
theorem s6_v87 : after hostOps0_6 W (Proc.devRef .tc main_v87) = siluOf (W (Proc.devRef .tc main_v32)) := by
  after_results
  all_goals rfl
theorem s7_v93 : after hostOps0_7 W (Proc.devRef .tc main_v93) = outOf (W (Proc.devRef .tc main_arg0)) (W (Proc.devRef .tc main_v2)) (W (Proc.devRef .tc main_v86)) (W (Proc.devRef .tc main_v87)) (W (Proc.devRef .tc main_arg7)) := by
  after_results
  all_goals rfl

/-! ## and at an index -/

theorem rmsOf_at (x : FVec Ideal S4x4096x1024 .f32) (b : Fin 4) (s : Fin 4096) (k : Fin 1024) : rmsOf x (ix3 b s k) = rinv (fun k => x (ix3 b s k)) := by
  pointwise [rmsOf, rinv]
theorem onRows_at (g : FVec Ideal S1024 .f32) (b : Fin 4) (s : Fin 4096) (k : Fin 1024) : onRows g (ix3 b s k) = g (ix1 k) := by
  pointwise [onRows]
theorem modOf_at (x : FVec Ideal S4x4096x1024 .f32) (mod : FVec Ideal S4x6144 .f32) (g : FVec Ideal S1024 .f32) (b : Fin 4) (s : Fin 4096) (k : Fin 1024) : modOf x mod g (ix3 b s k)
    = modulated (fun k => x (ix3 b s k)) (fun k => g (ix1 k)) (fun k => mod (ix2 b ⟨1024 * 1 + k.val, by omega⟩)) (fun k => mod (ix2 b ⟨1024 * 0 + k.val, by omega⟩)) k := by
  pointwise [modOf, modulated]
  simp only [rmsOf_at, onRows_at, Nat.mul_zero, Nat.zero_add, Nat.mul_one]
theorem projOf_at (y : FVec Ideal S4x4096x1024 .f32) (w : FVec Ideal S1024x3088 .f32) (b : Fin 4) (s : Fin 4096) (j : Fin 3088) : projOf y w (ix3 b s j) = ∑ k : Fin 1024, y (ix3 b s k) * w (ix2 k j) := by
  pointwise [projOf]
theorem preOf_at (p : FVec Ideal S4x4096x3088 .f32) (g2 : FVec Ideal S16x512 .f32) (bg : FVec Ideal S512 .f32) (b : Fin 4) (s : Fin 4096) (d : Fin 512) : preOf p g2 bg (ix3 b s d)
    = (∑ j : Fin 16, p (ix3 b s ⟨2048 + j.val, by omega⟩) * g2 (ix2 j d)) + bg (ix1 d) := by
  pointwise [preOf]
theorem zOf_at (i : S4x4096x512.Idx) : zOf i = (0 : EReal) := by
  obtain ⟨b, s, d, rfl⟩ : ∃ b s d, i = ix3 b s d := ⟨_, _, _, eq_ix3 i⟩
  pointwise [zOf]
theorem gate_at (p : FVec Ideal S4x4096x512 .f32) (b : Fin 4) (s : Fin 4096) (d : Fin 512) : laOf (gateOf p) (ix3 b s d) = gateR (p (ix3 b s d)) := by
  pointwise [laOf, gateOf, gateR, zOf_at]
  rw [if_neg (fun h => h rfl)]
  rfl
theorem headsOf_at (x : FVec Ideal S4x4096x512 .f32) (b h : Fin 4) (n t : Fin 64) (d : Fin 128) : headsOf x (ix5 b h n t d) = x (ix3 b (row n t) (key h d)) := by
  pointwise [headsOf, row, key]
  simp only [Nat.mul_comm]
theorem heads256Of_at (x : FVec Ideal S4x4096x1024 .f32) (b h : Fin 4) (n t : Fin 64) (e : Fin 256) : heads256Of x (ix5 b h n t e) = x (ix3 b (row n t) (col h e)) := by
  pointwise [heads256Of, row, col]
  simp only [Nat.mul_comm]
theorem qOf_at (x : FVec Ideal S4x4096x512 .f32) (b h : Fin 4) (n t : Fin 64) (d : Fin 128) : qOf x (ix5 b h n t d) = x (ix3 b (row n t) (key h d)) * Ideal.ofBits .f32 0x3DB504F3#32 := by
  pointwise [qOf]
  simp only [headsOf_at]
theorem totOf_at (u : FVec Ideal S4x4x64x64x128 .f32) (b h : Fin 4) (n : Fin 64) (d : Fin 128) : totOf u (ix5 b h n 0 d) = u (ix5 b h n 63 d) := by
  pointwise [totOf]
theorem kdOf_at (k u : FVec Ideal S4x4x64x64x128 .f32) (b h : Fin 4) (n t : Fin 64) (d : Fin 128) : kdOf k u (ix5 b h n t d) = k (ix5 b h n t d) * Ideal.exp (u (ix5 b h n 63 d) - u (ix5 b h n t d)) := by
  pointwise [kdOf]
  simp only [totOf_at]
theorem inOf_at (q kd : FVec Ideal S4x4x64x64x128 .f32) (v : FVec Ideal S4x4x64x64x256 .f32) (b h : Fin 4) (n t : Fin 64) (e : Fin 256) : inOf q kd v (ix5 b h n t e)
    = ∑ s : Fin 64, (∑ d : Fin 128, q (ix5 b h n t d) * kd (ix5 b h n s d)) * v (ix5 b h n s e) := by
  pointwise [inOf]
theorem kvOf_at (kd : FVec Ideal S4x4x64x64x128 .f32) (v : FVec Ideal S4x4x64x64x256 .f32) (b h : Fin 4) (n : Fin 64) (d : Fin 128) (e : Fin 256) : kvOf kd v (ix5 n b h d e)
    = ∑ s : Fin 64, kd (ix5 b h n s d) * v (ix5 b h n s e) := by
  pointwise [kvOf]
theorem decOf_at (t : FVec Ideal S4x4x64x1x128 .f32) (b h : Fin 4) (n : Fin 64) (d : Fin 128) : decOf t (ix4 n b h d) = Ideal.exp (t (ix5 b h n 0 d)) := by
  pointwise [decOf]
theorem zeros_at (b h : Fin 4) (d : Fin 128) (e : Fin 256) : broadcastInDim S4x4x128x256 ![] bcast_S_S4x4x128x256 (constant (F := Ideal) S_ .f32 0x00000000#32) (ix4 b h d e) = (0 : EReal) := by
  pointwise
theorem allOf_at (s : FVec Ideal S64x4x4x128x256 .f32) (u : FVec Ideal S4x4x64x1x128 .f32) (q : FVec Ideal S4x4x64x64x128 .f32) (i : FVec Ideal S4x4x64x64x256 .f32) (b h : Fin 4) (n t : Fin 64) (e : Fin 256) :
    allOf s u q i (ix5 b h n t e) = i (ix5 b h n t e) + ∑ d : Fin 128, q (ix5 b h n t d) * Ideal.exp (u (ix5 b h n 0 d)) * s (ix5 n b h d e) := by
  pointwise [allOf]
theorem backOf_at (o : FVec Ideal S4x4x64x64x256 .f32) (b : Fin 4) (s : Fin 4096) (n : Fin 1024) : backOf o (ix3 b s n)
    = o (ix5 b ⟨n.val / 256, by omega⟩ ⟨s.val / 64, by omega⟩ ⟨s.val % 64, by omega⟩ ⟨n.val % 256, by omega⟩) * rinvH (fun e => o (ix5 b ⟨n.val / 256, by omega⟩ ⟨s.val / 64, by omega⟩ ⟨s.val % 64, by omega⟩ e)) := by
  pointwise [backOf, rinvH]
theorem siluOf_at (r : FVec Ideal S4x4096x1024 .f32) (b : Fin 4) (s : Fin 4096) (n : Fin 1024) : siluOf r (ix3 b s n) = silu (r (ix3 b s n)) := by
  pointwise [siluOf, silu]
theorem outOf_at (x : FVec Ideal S4x4096x1024 .f32) (md : FVec Ideal S4x1024 .f32) (o r : FVec Ideal S4x4096x1024 .f32) (wo : FVec Ideal S1024x1024 .f32) (b : Fin 4) (s : Fin 4096) (k : Fin 1024) :
    outOf x md o r wo (ix3 b s k) = x (ix3 b s k) + md (ix2 b k) * ∑ n : Fin 1024, o (ix3 b s n) * r (ix3 b s n) * wo (ix2 n k) := by
  pointwise [outOf]

/-- A trip reads one chunk of what it walks, -/
theorem chunk5_at (X : FVec Ideal S64x4x4x128x256 .f32) (n : Fin 64) (i : Fin 5 → S_.Idx → BitVec 32) (h0 : (i 0 (Shape.Idx.first h_S_)).toInt = n.val) (h1 : ∀ k : Fin 4, (i k.succ (Shape.Idx.first h_S_)).toInt = 0) (b h : Fin 4) (d : Fin 128) (e : Fin 256) :
    shapeCast S4x4x128x256 (Host.dynamicSlice S1x4x4x128x256 X (fun k => (i k (Shape.Idx.first h_S_)).toInt) sliceFits_S64x4x4x128x256_S1x4x4x128x256) shapeCasts_S1x4x4x128x256_S4x4x128x256 (ix4 b h d e) = X (ix5 n b h d e) := by
  have c0 : ∀ ht, Host.clampedStart S64x4x4x128x256 S1x4x4x128x256 ht (fun k => (i k (Shape.Idx.first h_S_)).toInt) 0 = n.val := fun ht => Host.clampedStart_of_le ht _ 0 n.val h0 (by show n.val + 1 ≤ 64; omega)
  have c1 : ∀ ht (k : Fin 4), Host.clampedStart S64x4x4x128x256 S1x4x4x128x256 ht (fun k => (i k (Shape.Idx.first h_S_)).toInt) k.succ = 0 := fun ht k => Host.clampedStart_of_le ht _ k.succ 0 (h1 k) (by match k with
    | ⟨0, _⟩ => show 0 + 4 ≤ 4; omega
    | ⟨1, _⟩ => show 0 + 4 ≤ 4; omega
    | ⟨2, _⟩ => show 0 + 128 ≤ 128; omega
    | ⟨3, _⟩ => show 0 + 256 ≤ 256; omega)
  pointwise
  exact congrArg X (funext fun a => Fin.ext (by
    match a with
    | ⟨0, _⟩ => exact c0 rfl
    | ⟨1, _⟩ => exact (congrArg (· + b.val) (c1 rfl 0)).trans (Nat.zero_add _)
    | ⟨2, _⟩ => exact (congrArg (· + h.val) (c1 rfl 1)).trans (Nat.zero_add _)
    | ⟨3, _⟩ => exact (congrArg (· + d.val) (c1 rfl 2)).trans (Nat.zero_add _)
    | ⟨4, _⟩ => exact (congrArg (· + e.val) (c1 rfl 3)).trans (Nat.zero_add _)))
theorem chunk4_at (X : FVec Ideal S64x4x4x128 .f32) (n : Fin 64) (i : Fin 4 → S_.Idx → BitVec 32) (h0 : (i 0 (Shape.Idx.first h_S_)).toInt = n.val) (h1 : ∀ k : Fin 3, (i k.succ (Shape.Idx.first h_S_)).toInt = 0) (b h : Fin 4) (d : Fin 128) :
    shapeCast S4x4x128 (Host.dynamicSlice S1x4x4x128 X (fun k => (i k (Shape.Idx.first h_S_)).toInt) sliceFits_S64x4x4x128_S1x4x4x128) shapeCasts_S1x4x4x128_S4x4x128 (ix3 b h d) = X (ix4 n b h d) := by
  have c0 : ∀ ht, Host.clampedStart S64x4x4x128 S1x4x4x128 ht (fun k => (i k (Shape.Idx.first h_S_)).toInt) 0 = n.val := fun ht => Host.clampedStart_of_le ht _ 0 n.val h0 (by show n.val + 1 ≤ 64; omega)
  have c1 : ∀ ht (k : Fin 3), Host.clampedStart S64x4x4x128 S1x4x4x128 ht (fun k => (i k (Shape.Idx.first h_S_)).toInt) k.succ = 0 := fun ht k => Host.clampedStart_of_le ht _ k.succ 0 (h1 k) (by match k with
    | ⟨0, _⟩ => show 0 + 4 ≤ 4; omega
    | ⟨1, _⟩ => show 0 + 4 ≤ 4; omega
    | ⟨2, _⟩ => show 0 + 128 ≤ 128; omega)
  pointwise
  exact congrArg X (funext fun a => Fin.ext (by
    match a with
    | ⟨0, _⟩ => exact c0 rfl
    | ⟨1, _⟩ => exact (congrArg (· + b.val) (c1 rfl 0)).trans (Nat.zero_add _)
    | ⟨2, _⟩ => exact (congrArg (· + h.val) (c1 rfl 1)).trans (Nat.zero_add _)
    | ⟨3, _⟩ => exact (congrArg (· + d.val) (c1 rfl 2)).trans (Nat.zero_add _)))
theorem lead_at (Y : FVec Ideal S4x4x128x256 .f32) (z : S1x4x4x128x256.Idx) : broadcastInDim S1x4x4x128x256 ![1, 2, 3, 4] bcast_S4x4x128x256_S1x4x4x128x256_1_2_3_4 Y z = Y (ix4 (z 1) (z 2) (z 3) (z 4)) := by
  obtain ⟨a, b, h, d, e, rfl⟩ : ∃ a b h d e, z = ix5 a b h d e := ⟨_, _, _, _, _, eq_ix5 z⟩
  pointwise
/-- and writes one. -/
theorem upd_at (X : FVec Ideal S64x4x4x128x256 .f32) (Y : FVec Ideal S4x4x128x256 .f32) (n : Fin 64) (i : Fin 5 → S_.Idx → BitVec 32) (h0 : (i 0 (Shape.Idx.first h_S_)).toInt = n.val) (h1 : ∀ k : Fin 4, (i k.succ (Shape.Idx.first h_S_)).toInt = 0) (j : Fin 64) (b h : Fin 4) (d : Fin 128) (e : Fin 256) :
    Host.dynamicUpdateSlice X (broadcastInDim S1x4x4x128x256 ![1, 2, 3, 4] bcast_S4x4x128x256_S1x4x4x128x256_1_2_3_4 Y) (fun k => (i k (Shape.Idx.first h_S_)).toInt) updateFits_S64x4x4x128x256_S1x4x4x128x256 (ix5 j b h d e) = if j = n then Y (ix4 b h d e) else X (ix5 j b h d e) := by
  have c0 : ∀ ht, Host.clampedStart S64x4x4x128x256 S1x4x4x128x256 ht (fun k => (i k (Shape.Idx.first h_S_)).toInt) 0 = n.val := fun ht => Host.clampedStart_of_le ht _ 0 n.val h0 (by show n.val + 1 ≤ 64; omega)
  have c1 : ∀ ht (k : Fin 4), Host.clampedStart S64x4x4x128x256 S1x4x4x128x256 ht (fun k => (i k (Shape.Idx.first h_S_)).toInt) k.succ = 0 := fun ht k => Host.clampedStart_of_le ht _ k.succ 0 (h1 k) (by match k with
    | ⟨0, _⟩ => show 0 + 4 ≤ 4; omega
    | ⟨1, _⟩ => show 0 + 4 ≤ 4; omega
    | ⟨2, _⟩ => show 0 + 128 ≤ 128; omega
    | ⟨3, _⟩ => show 0 + 256 ≤ 256; omega)
  rw [Host.dynamicUpdateSlice_apply]
  by_cases hj : j = n
  · subst hj
    rw [dif_pos (fun a => by
      match a with
      | ⟨0, _⟩ => exact ⟨le_of_eq (c0 rfl), show j.val < Host.clampedStart S64x4x4x128x256 S1x4x4x128x256 updateFits_S64x4x4x128x256_S1x4x4x128x256.1 (fun k => (i k (Shape.Idx.first h_S_)).toInt) 0 + 1 by rw [c0]; omega⟩
      | ⟨1, _⟩ => exact ⟨le_of_eq_of_le (c1 rfl 0) (Nat.zero_le _), show b.val < Host.clampedStart S64x4x4x128x256 S1x4x4x128x256 updateFits_S64x4x4x128x256_S1x4x4x128x256.1 (fun k => (i k (Shape.Idx.first h_S_)).toInt) (0 : Fin 4).succ + 4 by rw [c1]; omega⟩
      | ⟨2, _⟩ => exact ⟨le_of_eq_of_le (c1 rfl 1) (Nat.zero_le _), show h.val < Host.clampedStart S64x4x4x128x256 S1x4x4x128x256 updateFits_S64x4x4x128x256_S1x4x4x128x256.1 (fun k => (i k (Shape.Idx.first h_S_)).toInt) (1 : Fin 4).succ + 4 by rw [c1]; omega⟩
      | ⟨3, _⟩ => exact ⟨le_of_eq_of_le (c1 rfl 2) (Nat.zero_le _), show d.val < Host.clampedStart S64x4x4x128x256 S1x4x4x128x256 updateFits_S64x4x4x128x256_S1x4x4x128x256.1 (fun k => (i k (Shape.Idx.first h_S_)).toInt) (2 : Fin 4).succ + 128 by rw [c1]; omega⟩
      | ⟨4, _⟩ => exact ⟨le_of_eq_of_le (c1 rfl 3) (Nat.zero_le _), show e.val < Host.clampedStart S64x4x4x128x256 S1x4x4x128x256 updateFits_S64x4x4x128x256_S1x4x4x128x256.1 (fun k => (i k (Shape.Idx.first h_S_)).toInt) (3 : Fin 4).succ + 256 by rw [c1]; omega⟩), if_pos rfl]
    refine (lead_at Y _).trans (congrArg Y (funext fun a => Fin.ext (by
      match a with
      | ⟨0, _⟩ => exact (congrArg (b.val - ·) (c1 rfl 0)).trans (Nat.sub_zero _)
      | ⟨1, _⟩ => exact (congrArg (h.val - ·) (c1 rfl 1)).trans (Nat.sub_zero _)
      | ⟨2, _⟩ => exact (congrArg (d.val - ·) (c1 rfl 2)).trans (Nat.sub_zero _)
      | ⟨3, _⟩ => exact (congrArg (e.val - ·) (c1 rfl 3)).trans (Nat.sub_zero _))))
  · rw [if_neg hj, dif_neg (fun hin => hj (Fin.ext (by
      have hl : Host.clampedStart S64x4x4x128x256 S1x4x4x128x256 updateFits_S64x4x4x128x256_S1x4x4x128x256.1 (fun k => (i k (Shape.Idx.first h_S_)).toInt) 0 ≤ j.val := (hin 0).1
      have hu : j.val < Host.clampedStart S64x4x4x128x256 S1x4x4x128x256 updateFits_S64x4x4x128x256_S1x4x4x128x256.1 (fun k => (i k (Shape.Idx.first h_S_)).toInt) 0 + 1 := (hin 0).2
      rw [c0] at hl hu
      omega)))]

theorem foldl_plus {ι : Type} (g : ι → EReal) : ∀ (l : List ι) (r : EReal), l.foldl (fun r n => r + g n) r = r + (l.map g).sum
  | [], r => (add_zero r).symm
  | n :: l, r => by rw [List.foldl_cons, foldl_plus g l, List.map_cons, List.sum_cons, add_assoc]

/-- A window along a chunk alone, -/
abbrev win : Shape := ⟨5, ![1, 1, 1, 64, 1]⟩
theorem win_numel : win.numel = 64 := by decide +kernel
theorem win_at : ∀ (w : Fin 64) (a : Fin 5), (win.rowMajor.symm (w.cast win_numel.symm) a).val = if a = 3 then w.val else 0 := by decide +kernel

theorem cumOf_at (x : FVec Ideal S4x4x64x64x128 .f32) (b h : Fin 4) (n t : Fin 64) (d : Fin 128) : cumOf x (ix5 b h n t d) = ∑ s : Fin 64, if s.val ≤ t.val then x (ix5 b h n s d) else (0 : EReal) := by
  have hv : ∀ i : S_.Idx, broadcastInDim S_ ![] bcast_S_S_ (constant (F := Ideal) S_ .f32 0x00000000#32) i = (0 : EReal) := fun i => by
    rw [show i = ix0 from funext fun a => a.elim0]
    pointwise
  show Host.reduceWindow (fun a b : EReal => a + b) ![1, 1, 1, 64, 1] ![1, 1, 1, 1, 1] ![0, 0, 0, 63, 0] ![0, 0, 0, 0, 0] x (fun _ => broadcastInDim S_ ![] bcast_S_S_ (constant (F := Ideal) S_ .f32 0x00000000#32) (Shape.Idx.first h_S_)) reduceWindows_S4x4x64x64x128_S4x4x64x64x128_w1s1p0_0_w1s1p0_0_w1s1p0_0_w64s1p63_0_w1s1p0_0 h_S_ (ix5 b h n t d) = _
  unfold Host.reduceWindow
  dsimp only
  rw [foldl_plus, hv, zero_add, ← Fin.sum_univ_def]
  refine ((Equiv.sum_comp (finCongr win_numel.symm) _).symm).trans ?_
  refine Eq.trans (Finset.sum_congr rfl fun w _ => ?_) (Equiv.sum_comp (Equiv.addRight (t + 1)) fun s : Fin 64 => if s.val ≤ t.val then x (ix5 b h n s d) else (0 : EReal))
  have hs : (Equiv.addRight (t + 1) w).val = (w.val + (t.val + 1)) % 64 := by
    show (w + (t + 1)).val = _
    simp [Fin.val_add]
  have q := win_at w
  have q0 : (win.rowMajor.symm (w.cast win_numel.symm) 0).val = 0 := q 0
  have q1 : (win.rowMajor.symm (w.cast win_numel.symm) 1).val = 0 := q 1
  have q2 : (win.rowMajor.symm (w.cast win_numel.symm) 2).val = 0 := q 2
  have q3 : (win.rowMajor.symm (w.cast win_numel.symm) 3).val = w.val := q 3
  have q4 : (win.rowMajor.symm (w.cast win_numel.symm) 4).val = 0 := q 4
  by_cases hc : 63 ≤ t.val + w.val
  · rw [dif_pos (fun a => by
      match a with
      | ⟨0, _⟩ => show 0 ≤ b.val * 1 + (win.rowMajor.symm (w.cast win_numel.symm) 0).val ∧ b.val * 1 + (win.rowMajor.symm (w.cast win_numel.symm) 0).val - 0 < 4; omega
      | ⟨1, _⟩ => show 0 ≤ h.val * 1 + (win.rowMajor.symm (w.cast win_numel.symm) 1).val ∧ h.val * 1 + (win.rowMajor.symm (w.cast win_numel.symm) 1).val - 0 < 4; omega
      | ⟨2, _⟩ => show 0 ≤ n.val * 1 + (win.rowMajor.symm (w.cast win_numel.symm) 2).val ∧ n.val * 1 + (win.rowMajor.symm (w.cast win_numel.symm) 2).val - 0 < 64; omega
      | ⟨3, _⟩ => show 63 ≤ t.val * 1 + (win.rowMajor.symm (w.cast win_numel.symm) 3).val ∧ t.val * 1 + (win.rowMajor.symm (w.cast win_numel.symm) 3).val - 63 < 64; omega
      | ⟨4, _⟩ => show 0 ≤ d.val * 1 + (win.rowMajor.symm (w.cast win_numel.symm) 4).val ∧ d.val * 1 + (win.rowMajor.symm (w.cast win_numel.symm) 4).val - 0 < 128; omega), if_pos (by rw [hs]; omega)]
    exact congrArg x (funext fun a => Fin.ext (by
      match a with
      | ⟨0, _⟩ => show b.val * 1 + (win.rowMajor.symm (w.cast win_numel.symm) 0).val - 0 = b.val; omega
      | ⟨1, _⟩ => show h.val * 1 + (win.rowMajor.symm (w.cast win_numel.symm) 1).val - 0 = h.val; omega
      | ⟨2, _⟩ => show n.val * 1 + (win.rowMajor.symm (w.cast win_numel.symm) 2).val - 0 = n.val; omega
      | ⟨3, _⟩ => show t.val * 1 + (win.rowMajor.symm (w.cast win_numel.symm) 3).val - 63 = (Equiv.addRight (t + 1) w).val; omega
      | ⟨4, _⟩ => show d.val * 1 + (win.rowMajor.symm (w.cast win_numel.symm) 4).val - 0 = d.val; omega))
  · rw [dif_neg (fun hin => by
      have h3 : 63 ≤ t.val * 1 + (win.rowMajor.symm (w.cast win_numel.symm) 3).val := (hin 3).1
      omega), if_neg (by rw [hs]; omega)]

end Cert.Reference4Ideal.Hand

end
-- ==== Proof.GlaRefValue.lean ====
/-
The gated linear attention reference's result in its arguments, where the weights are finite: its loop carries the kernel's states, and its scores read what the kernel reads from a state after its update.
-/
module

public import proofs.«01_k».proof.Proof.GlaRef

@[expose] public section

set_option maxRecDepth 16384

noncomputable section

namespace Cert.Gla

open Idealize.ShloMosaic

/-- What a comparison of the absolute values with infinity says of an array's entries. -/
theorem real_of_lt {s : Shape} (hb : (⟨0, ![]⟩ : Shape).BroadcastsInDim s (![] : Fin 0 → Fin s.rank)) (a : FVec Ideal s .f32)
    (h : cmpf .olt (Host.absf a) (broadcastInDim s ![] hb (constant (F := Ideal) ⟨0, ![]⟩ .f32 0x7F800000#32)) = fun _ => 1#1) (i : s.Idx) : IsReal (a i) := by
  have e := congrFun h i
  have ht : Ideal.ofBits .f32 0x7F800000#32 = ⊤ := by simp [Ideal.ofBits, Ideal.ieee]
  refine of_abs_lt ?_
  by_contra hn
  change Ideal.cmp .olt (Max.max (a i : EReal) (-(a i))) (Ideal.ofBits .f32 0x7F800000#32) = 1#1 at e
  rw [Ideal.cmp_olt, ht, decide_eq_false hn] at e
  exact absurd e (by decide)

/-- A row is normed to reals, whatever its entries: where its mean square is infinite, by a zero. -/
theorem norm_real (x : Fin 1024 → EReal) (k : Fin 1024) : IsReal (x k * Cert.Mlp.rinv x) := by
  by_cases hx : ∀ k, IsReal (x k)
  · exact (hx k).mul (rinv_real hx)
  have h0 : ∀ y : EReal, 0 ≤ y * y := fun y => by
    rcases le_total 0 y with hy | hy
    · exact mul_nonneg hy hy
    · rw [← neg_mul_neg]
      exact mul_nonneg (EReal.neg_nonneg.mpr hy) (EReal.neg_nonneg.mpr hy)
  obtain ⟨j, hj⟩ := not_forall.mp hx
  have hs : ∑ k, x k * x k = ⊤ := by
    refine top_le_iff.mp (le_trans (le_of_eq ?_) (Finset.single_le_sum (f := fun k => x k * x k) (fun k _ => h0 (x k)) (Finset.mem_univ j)))
    show ⊤ = x j * x j
    generalize x j = y at hj
    induction y using EReal.rec with
    | bot => exact EReal.bot_mul_bot.symm
    | coe r => exact absurd ⟨r, rfl⟩ hj
    | top => exact EReal.top_mul_top.symm
  obtain ⟨ε, hε, he⟩ := bits_eps
  have hr : Cert.Mlp.rinv x = 0 := by
    unfold Cert.Mlp.rinv
    rw [hs, he, bits_1024]
    have hd : Ideal.div ⊤ ((1024 : ℝ) : EReal) = ⊤ := by
      unfold Ideal.div
      rw [if_neg (by simp), ← EReal.coe_inv]
      exact EReal.top_mul_coe_of_pos (by norm_num)
    rw [hd, EReal.top_add_coe]
    rfl
  rw [hr, mul_zero]
  exact IsReal.zero

theorem modulated_fin {x g sc sh : Fin 1024 → EReal} (hg : ∀ k, IsReal (g k)) (hsc : ∀ k, IsReal (sc k)) (hsh : ∀ k, IsReal (sh k)) (k : Fin 1024) :
    IsReal (Cert.Mlp.modulated x g sc sh k) :=
  (((norm_real x k).mul (hg k)).mul (IsReal.one.add (hsc k))).add (hsh k)

namespace Args

/-- The arguments are finite where the state's products are rearranged. -/
structure Finite (A : Args) : Prop where
  mod : ∀ i, IsReal (A.mod i)
  g : ∀ i, IsReal (A.g i)
  w : ∀ i, IsReal (A.w i)
  g2 : ∀ i, IsReal (A.g2 i)
  bg : ∀ i, IsReal (A.bg i)

namespace Finite
variable {A : Args} (f : A.Finite)
include f

theorem hid (b : Fin 4) (s : Fin 4096) (k : Fin 1024) : IsReal (A.hid b s k) := modulated_fin (fun _ => f.g _) (fun _ => f.mod _) (fun _ => f.mod _) k
theorem proj (b : Fin 4) (s : Fin 4096) (j : Fin 3088) : IsReal (A.proj b s j) := IsReal.sum _ fun k => (f.hid b s k).mul (f.w _)
theorem q (b : Fin 4) (s : Fin 4096) (d : Fin 512) : IsReal (A.q b s d) := (f.proj _ _ _).mul bits_scale
theorem pre (b : Fin 4) (s : Fin 4096) (d : Fin 512) : IsReal (A.pre b s d) := (IsReal.sum _ fun j => (f.proj _ _ _).mul (f.g2 _)).add (f.bg _)
theorem la (b : Fin 4) (s : Fin 4096) (d : Fin 512) : IsReal (A.la b s d) := gate_real (f.pre b s d)
theorem mask (p : Prop) [Decidable p] : IsReal (if p then (1 : EReal) else 0) := by
  split
  · exact IsReal.one
  · exact IsReal.zero
theorem kd (b : Fin 4) (n t : Fin 64) (d : Fin 512) : IsReal (A.kd b n t d) :=
  (f.proj _ _ _).mul (IsReal.exp ((IsReal.sum _ fun s => (f.mask _).mul (f.la _ _ _)).add (IsReal.sum _ fun s => (f.mask _).mul ((f.la _ _ _).sub (f.la _ _ _)))))
theorem dec (b : Fin 4) (n : Fin 64) (d : Fin 512) : IsReal (A.dec b n d) := IsReal.exp (IsReal.sum _ fun t => f.la _ _ _)
theorem st : ∀ n b h e d, IsReal (A.st n b h e d)
  | 0, _, _, _, _ => IsReal.zero
  | n + 1, b, h, e, d => ((f.dec _ _ _).mul (st n b h e d)).add (IsReal.sum _ fun t => (f.proj _ _ _).mul (f.kd _ _ _ _))

/-- A key's decay is the rest of its chunk's logs, -/
theorem kd_eq (b : Fin 4) (n t : Fin 64) (d : Fin 512) : A.k b (row n t) d * Ideal.exp ((∑ s : Fin 64, A.la b (row n s) d) - ∑ s : Fin 64, if s.val ≤ t.val then A.la b (row n s) d else 0) = A.kd b n t d :=
  congrArg (fun z => A.k b (row n t) d * Ideal.exp z) (rest_eq (fun s => f.la b (row n s) d) t).symm

/-- and a row's readings are those within its chunk with those of the state before it. -/
theorem o_eq (b : Fin 4) (n t : Fin 64) (h : Fin 4) (e : Fin 256) :
    (∑ s : Fin 64, (∑ d : Fin 128, A.q b (row n t) (key h d) * A.kd b n s (key h d)) * A.v b (row n s) (col h e)) + ∑ d : Fin 128, A.q b (row n t) (key h d) * A.dec b n (key h d) * A.st n.val b h e d = A.o b n t h e := by
  have hn : (⟨n.val % 64, Nat.mod_lt _ (by decide)⟩ : Fin 64) = n := Fin.ext (Nat.mod_eq_of_lt n.isLt)
  refine (read_eq (q := fun d => A.q b (row n t) (key h d)) (dec := fun d => A.dec b n (key h d)) (S := fun d => A.st n.val b h e d) (v := fun s => A.v b (row n s) (col h e)) (kd := fun s d => A.kd b n s (key h d))
    (fun d => f.q _ _ _) (fun d => f.dec _ _ _) (fun d => f.st _ _ _ _ _) (fun s => f.proj _ _ _) (fun s d => f.kd _ _ _ _)).symm.trans ?_
  unfold Args.o
  refine Finset.sum_congr rfl fun d _ => congrArg (A.q b (row n t) (key h d) * ·) ?_
  show _ = A.dec b ⟨n.val % 64, _⟩ (key h d) * A.st n.val b h e d + ∑ t : Fin 64, A.v b (row ⟨n.val % 64, _⟩ t) (col h e) * A.kd b ⟨n.val % 64, _⟩ t (key h d)
  rw [hn]

end Finite

end Args

end Cert.Gla

namespace Cert.Reference4Ideal.Hand

open Cert.Reference4Ideal Cert.Reference4Ideal.Gen Cert.Reference4Ideal.Value Cert.Mlp Cert.Gla
open Idealize.ShloMosaic Idealize.ShloMosaic.TcCoe Idealize.SL.Sem Idealize.ShloMosaic.StableHlo

section Keep
variable (W : Valuation τ sig (Elt Ideal)) (r : Ref sig .tc)
theorem k0 (h : r ∉ hostOps0_W) : after hostOps0 W (Proc.devRef .tc r) = W (Proc.devRef .tc r) := after_of_writes_sub _ _ hostOps0_writes h
theorem k1 (h : r ∉ hostOps0_1_W) : after hostOps0_1 W (Proc.devRef .tc r) = W (Proc.devRef .tc r) := after_of_writes_sub _ _ hostOps0_1_writes h
theorem k2 (h : r ∉ hostOps0_2_W) : after hostOps0_2 W (Proc.devRef .tc r) = W (Proc.devRef .tc r) := after_of_writes_sub _ _ hostOps0_2_writes h
theorem k3 (h : r ∉ hostOps0_3_W) : after hostOps0_3 W (Proc.devRef .tc r) = W (Proc.devRef .tc r) := after_of_writes_sub _ _ hostOps0_3_writes h
theorem k4 (h : r ∉ hostOps0_4_W) : after hostOps0_4 W (Proc.devRef .tc r) = W (Proc.devRef .tc r) := after_of_writes_sub _ _ hostOps0_4_writes h
theorem k5 (h : r ∉ hostOps0_5_W) : after hostOps0_5 W (Proc.devRef .tc r) = W (Proc.devRef .tc r) := after_of_writes_sub _ _ hostOps0_5_writes h
theorem k6 (h : r ∉ hostOps0_6_W) : after hostOps0_6 W (Proc.devRef .tc r) = W (Proc.devRef .tc r) := after_of_writes_sub _ _ hostOps0_6_writes h
theorem k7 (h : r ∉ hostOps0_7_W) : after hostOps0_7 W (Proc.devRef .tc r) = W (Proc.devRef .tc r) := after_of_writes_sub _ _ hostOps0_7_writes h
end Keep

section Parts
variable (P : FVec Ideal S4x4096x3088 .f32) (b : Fin 4) (s : Fin 4096)
theorem part0_at (d : Fin 512) : extractStridedSlice S4x4096x512 ![0, 0, 0] P slices_S4x4096x3088_S4x4096x512_0_0_0 (ix3 b s d) = P (ix3 b s ⟨d.val, by omega⟩) := by
  pointwise
theorem part512_at (d : Fin 512) : extractStridedSlice S4x4096x512 ![0, 0, 512] P slices_S4x4096x3088_S4x4096x512_0_0_512 (ix3 b s d) = P (ix3 b s ⟨512 + d.val, by omega⟩) := by
  pointwise
theorem part1024_at (e : Fin 1024) : extractStridedSlice S4x4096x1024 ![0, 0, 1024] P slices_S4x4096x3088_S4x4096x1024_0_0_1024 (ix3 b s e) = P (ix3 b s ⟨1024 + e.val, by omega⟩) := by
  pointwise
theorem part2064_at (n : Fin 1024) : extractStridedSlice S4x4096x1024 ![0, 0, 2064] P slices_S4x4096x3088_S4x4096x1024_0_0_2064 (ix3 b s n) = P (ix3 b s ⟨2064 + n.val, by omega⟩) := by
  pointwise
theorem mod2_at (M : FVec Ideal S4x6144 .f32) (k : Fin 1024) : extractStridedSlice S4x1024 ![0, 2048] M slices_S4x6144_S4x1024_0_2048 (ix2 b k) = M (ix2 b ⟨2048 + k.val, by omega⟩) := by
  pointwise
theorem trip_at (Y : FVec Ideal S4x4x128 .f32) (S Z : FVec Ideal S4x4x128x256 .f32) (h : Fin 4) (d : Fin 128) (e : Fin 256) :
    addf (mulf (broadcastInDim S4x4x128x256 ![0, 1, 2, 3] bcast_S4x4x128x1_S4x4x128x256_0_1_2_3 (broadcastInDim S4x4x128x1 ![0, 1, 2] bcast_S4x4x128_S4x4x128x1_0_1_2 Y)) S) Z (ix4 b h d e) = (Y (ix3 b h d) * S (ix4 b h d e) + Z (ix4 b h d e) : EReal) := by
  pointwise
theorem gain_at (X Y : FVec Ideal S4x4096x1024 .f32) (n : Fin 1024) : mulf X Y (ix3 b s n) = (X (ix3 b s n) * Y (ix3 b s n) : EReal) := by
  pointwise
end Parts

variable (m : (ℓ : Loc nD τ sig) → Buf (Elt Ideal) ℓ) (c : Dev nD)

/-- The call's arguments, -/
def args : Args where
  x := (m ((c.tc : Thread nD τ).loc main_arg0) : S4x4096x1024.Idx → EReal)
  mod := (m ((c.tc : Thread nD τ).loc main_arg1) : S4x6144.Idx → EReal)
  g := (m ((c.tc : Thread nD τ).loc main_arg2) : S1024.Idx → EReal)
  w := (m ((c.tc : Thread nD τ).loc main_arg3) : S1024x3088.Idx → EReal)
  g2 := (m ((c.tc : Thread nD τ).loc main_arg4) : S16x512.Idx → EReal)
  bg := (m ((c.tc : Thread nD τ).loc main_arg5) : S512.Idx → EReal)
  gn := (m ((c.tc : Thread nD τ).loc main_arg6) : S1024.Idx → EReal)
  wo := (m ((c.tc : Thread nD τ).loc main_arg7) : S1024x1024.Idx → EReal)

/-- the buffers before the program, -/
abbrev M : Valuation τ sig (Elt Ideal) := fun b => m (c, b)
/-- before its last stretch ahead of the loop, -/
def W4 : Valuation τ sig (Elt Ideal) := after hostOps0_3 (after hostOps0_2 (after hostOps0_1 (after hostOps0 (M m c))))
/-- and at the loop. -/
theorem entry_eq : entryContents preI m c = after hostOps0_4 (W4 m c) := rfl

theorem proj_at (b : Fin 4) (s : Fin 4096) (j : Fin 3088) : projW (M m c) (ix3 b s j) = (args m c).proj b s j := by
  unfold projW
  rw [projOf_at]
  simp only [modOf_at]
  rfl

def qW : FVec Ideal S4x4x64x64x128 .f32 := W4 m c (Proc.devRef .tc main_v43)
def kW : FVec Ideal S4x4x64x64x128 .f32 := W4 m c (Proc.devRef .tc main_v45)
def vW : FVec Ideal S4x4x64x64x256 .f32 := W4 m c (Proc.devRef .tc main_v47)
def uW : FVec Ideal S4x4x64x64x128 .f32 := W4 m c (Proc.devRef .tc main_v50)

theorem qW_at (b h : Fin 4) (n t : Fin 64) (d : Fin 128) : qW m c (ix5 b h n t d) = (args m c).q b (row n t) (key h d) := by
  unfold qW W4
  rw [k3 _ main_v43 (by decide), s2_v43, k1 _ main_v28 (by decide), s0_v28, qOf_at, part0_at, proj_at]
  rfl
theorem kW_at (b h : Fin 4) (n t : Fin 64) (d : Fin 128) : kW m c (ix5 b h n t d) = (args m c).k b (row n t) (key h d) := by
  unfold kW W4
  rw [k3 _ main_v45 (by decide), s2_v45, k1 _ main_v29 (by decide), s0_v29, headsOf_at, part512_at, proj_at]
  rfl
theorem vW_at (b h : Fin 4) (n t : Fin 64) (e : Fin 256) : vW m c (ix5 b h n t e) = (args m c).v b (row n t) (col h e) := by
  unfold vW W4
  rw [k3 _ main_v47 (by decide), s2_v47, k1 _ main_v30 (by decide), s0_v30, heads256Of_at, part1024_at, proj_at]
  rfl
theorem pre_at (b : Fin 4) (s : Fin 4096) (d : Fin 512) : preOf (projW (M m c)) (M m c (Proc.devRef .tc main_arg4)) (M m c (Proc.devRef .tc main_arg5)) (ix3 b s d) = (args m c).pre b s d := by
  rw [preOf_at]
  simp only [proj_at]
  rfl

variable (f : (args m c).Finite)
include f

theorem uW_at (b h : Fin 4) (n t : Fin 64) (d : Fin 128) : uW m c (ix5 b h n t d) = ∑ s : Fin 64, if s.val ≤ t.val then (args m c).la b (row n s) (key h d) else 0 := by
  unfold uW W4
  rw [s3_v50, s2_v49, s1_v37, s0_v36, cumOf_at]
  refine Finset.sum_congr rfl fun s _ => ?_
  rw [headsOf_at, gate_at, pre_at, gate_eq (f.pre _ _ _)]
  rfl
theorem uW_last (b h : Fin 4) (n : Fin 64) (d : Fin 128) : uW m c (ix5 b h n 63 d) = ∑ s : Fin 64, (args m c).la b (row n s) (key h d) :=
  (uW_at m c f b h n 63 d).trans (Finset.sum_congr rfl fun s _ => if_pos (by show s.val ≤ 63; omega))
theorem kdW_at (b h : Fin 4) (n t : Fin 64) (d : Fin 128) : kdOf (kW m c) (uW m c) (ix5 b h n t d) = (args m c).kd b n t (key h d) := by
  rw [kdOf_at, kW_at, uW_last m c f, uW_at m c f, f.kd_eq]
theorem decW_at (b h : Fin 4) (n : Fin 64) (d : Fin 128) : decOf (totOf (uW m c)) (ix4 n b h d) = (args m c).dec b n (key h d) := by
  rw [decOf_at, totOf_at, uW_last m c f]
  rfl
theorem kvW_at (b h : Fin 4) (n : Fin 64) (d : Fin 128) (e : Fin 256) : kvOf (kdOf (kW m c) (uW m c)) (vW m c) (ix5 n b h d e) = ∑ s : Fin 64, (args m c).v b (row n s) (col h e) * (args m c).kd b n s (key h d) := by
  rw [kvOf_at]
  refine Finset.sum_congr rfl fun s _ => ?_
  rw [kdW_at m c f, vW_at, mul_comm]

/-! ## The loop -/

omit f in
theorem cond_keep (W : Valuation τ sig (Elt Ideal)) (r : Ref sig .tc) (h : r ∉ condOps_W) : after condOps W (Proc.devRef .tc r) = W (Proc.devRef .tc r) := after_of_writes_sub _ _ condOps_writes h
omit f in
theorem count : ∀ k : Fin 64, (Scf.iv 0#32 1#32 k.val).toInt = k.val := by decide +kernel

omit f in
theorem walk0 (k : ℕ) : atK m k c (Proc.devRef .tc main_v65_0) = kvOf (kdOf (kW m c) (uW m c)) (vW m c) := by
  rw [atK_keep m c main_v65_0 (by decide) k, entry_eq, s4_v65_0]
  rfl
omit f in
theorem walk1 (k : ℕ) : atK m k c (Proc.devRef .tc main_v65_1) = decOf (totOf (uW m c)) := by
  rw [atK_keep m c main_v65_1 (by decide) k, entry_eq, s4_v65_1]
  rfl

/-- The state after so many trips, -/
theorem state_trip : ∀ k ≤ 64, ∀ (b h : Fin 4) (d : Fin 128) (e : Fin 256), (atK m k c (Proc.devRef .tc main_v65_3) : S4x4x128x256.Idx → EReal) (ix4 b h d e) = (args m c).st k b h e d := by
  intro k
  induction k with
  | zero =>
    intro _ b h d e
    rw [show atK m 0 c = after hostOps0_4 (W4 m c) from rfl, s4_v65_3]
    exact zeros_at b h d e
  | succ k ih =>
    intro hk b h d e
    have hc := cond_keep (atK m k c) main_v65_2 (by decide)
    rw [atK_ctr] at hc
    have hn : (Scf.iv 0#32 1#32 k).toInt = k := count ⟨k, by omega⟩
    have h64 : (⟨k % 64, Nat.mod_lt _ (by decide)⟩ : Fin 64) = ⟨k, by omega⟩ := Fin.ext (Nat.mod_eq_of_lt (by omega))
    rw [show atK m (k + 1) c = afterL bodyI (after condOps (atK m k c)) from rfl, trip_main_v65_3, cond_keep _ main_v65_0 (by decide), cond_keep _ main_v65_1 (by decide), cond_keep _ main_v65_3 (by decide), hc, walk0, walk1]
    refine (trip_at b _ _ _ h d e).trans ?_
    refine congrArg₂ (· + ·) (congrArg₂ (· * ·) ((chunk4_at _ ⟨k, by omega⟩ _ hn (fun j => by match j with | ⟨0, _⟩ => rfl | ⟨1, _⟩ => rfl | ⟨2, _⟩ => rfl) b h d).trans (decW_at m c f b h _ d)) (ih (by omega) b h d e))
      ((chunk5_at _ ⟨k, by omega⟩ _ hn (fun j => by match j with | ⟨0, _⟩ => rfl | ⟨1, _⟩ => rfl | ⟨2, _⟩ => rfl | ⟨3, _⟩ => rfl) b h d e).trans (kvW_at m c f b h _ d e)) |>.trans ?_
    show _ = (args m c).dec b ⟨k % 64, _⟩ (key h d) * (args m c).st k b h e d + ∑ t : Fin 64, (args m c).v b (row ⟨k % 64, _⟩ t) (col h e) * (args m c).kd b ⟨k % 64, _⟩ t (key h d)
    rw [h64]

/-- and those before the trips, as stacked. -/
theorem stack_trip : ∀ k ≤ 64, ∀ (j : Fin 64), j.val < k → ∀ (b h : Fin 4) (d : Fin 128) (e : Fin 256), (atK m k c (Proc.devRef .tc main_v65_4) : S64x4x4x128x256.Idx → EReal) (ix5 j b h d e) = (args m c).st j.val b h e d := by
  intro k
  induction k with
  | zero => intro _ j hj; omega
  | succ k ih =>
    intro hk j hj b h d e
    have hc := cond_keep (atK m k c) main_v65_2 (by decide)
    rw [atK_ctr] at hc
    have hn : (Scf.iv 0#32 1#32 k).toInt = k := count ⟨k, by omega⟩
    rw [show atK m (k + 1) c = afterL bodyI (after condOps (atK m k c)) from rfl, trip_main_v65_4, cond_keep _ main_v65_3 (by decide), cond_keep _ main_v65_4 (by decide), hc]
    refine (upd_at _ _ ⟨k, by omega⟩ _ hn (fun j => by match j with | ⟨0, _⟩ => rfl | ⟨1, _⟩ => rfl | ⟨2, _⟩ => rfl | ⟨3, _⟩ => rfl) j b h d e).trans ?_
    by_cases hjk : j = ⟨k, by omega⟩
    · rw [if_pos hjk]
      rw [hjk]
      exact state_trip m c f k (by omega) b h d e
    · rw [if_neg hjk]
      exact ih (by omega) j (by have : j.val ≠ k := fun h => hjk (Fin.ext h); omega) b h d e

/-! ## After the loop -/

omit f in
theorem exit_keep (r : Ref sig .tc) (h : r ∉ tripW) (hc : r ∉ condOps_W) : after condOps (atK m 64 c) (Proc.devRef .tc r) = after hostOps0_4 (W4 m c) (Proc.devRef .tc r) :=
  (cond_keep _ r hc).trans (atK_keep m c r h 64)

/-- A row's readings, -/
theorem read_at (b h : Fin 4) (n t : Fin 64) (e : Fin 256) :
    allOf (atK m 64 c (Proc.devRef .tc main_v65_4)) (totOf (uW m c)) (qW m c) (inOf (qW m c) (kdOf (kW m c) (uW m c)) (vW m c)) (ix5 b h n t e) = (args m c).o b n t h e := by
  rw [allOf_at, inOf_at]
  refine Eq.trans ?_ (f.o_eq b n t h e)
  refine congrArg₂ (· + ·) (Finset.sum_congr rfl fun s _ => ?_) (Finset.sum_congr rfl fun d _ => ?_)
  · rw [vW_at]
    refine congrArg (· * _) (Finset.sum_congr rfl fun d _ => ?_)
    rw [qW_at, kdW_at m c f]
  · rw [qW_at, totOf_at, uW_last m c f, stack_trip m c f 64 (le_refl _) n n.isLt]
    rfl

/-- and the result in the arguments. -/
theorem result_at (b : Fin 4) (s : Fin 4096) (k : Fin 1024) :
    (finalContents condOps preI bodyI postI 64 m c (Proc.devRef .tc main_v93) : S4x4096x1024.Idx → EReal) (ix3 b s k) = (args m c).out (args m c).o b s k := by
  have e51 : after condOps (atK m 64 c) (Proc.devRef .tc main_v51) = totOf (uW m c) := by rw [exit_keep m c main_v51 (by decide) (by decide), s4_v51]; rfl
  have e43 : after condOps (atK m 64 c) (Proc.devRef .tc main_v43) = qW m c := by rw [exit_keep m c main_v43 (by decide) (by decide), k4 _ main_v43 (by decide)]; rfl
  have e57 : after condOps (atK m 64 c) (Proc.devRef .tc main_v57) = inOf (qW m c) (kdOf (kW m c) (uW m c)) (vW m c) := by rw [exit_keep m c main_v57 (by decide) (by decide), s4_v57]; rfl
  have e32 : after condOps (atK m 64 c) (Proc.devRef .tc main_v32) = extractStridedSlice S4x4096x1024 ![0, 0, 2064] (projW (M m c)) slices_S4x4096x3088_S4x4096x1024_0_0_2064 := by
    rw [exit_keep m c main_v32 (by decide) (by decide), k4 _ main_v32 (by decide)]
    unfold W4
    rw [k3 _ main_v32 (by decide), k2 _ main_v32 (by decide), k1 _ main_v32 (by decide), s0_v32]
  have e2 : after condOps (atK m 64 c) (Proc.devRef .tc main_v2) = extractStridedSlice S4x1024 ![0, 2048] (args m c).mod slices_S4x6144_S4x1024_0_2048 := by
    rw [exit_keep m c main_v2 (by decide) (by decide), k4 _ main_v2 (by decide)]
    unfold W4
    rw [k3 _ main_v2 (by decide), k2 _ main_v2 (by decide), k1 _ main_v2 (by decide), s0_v2]
    rfl
  have ea : ∀ r : Ref sig .tc, r ∉ preW → r ∉ tripW → r ∉ condOps_W → after condOps (atK m 64 c) (Proc.devRef .tc r) = m ((c.tc : Thread nD τ).loc r) := fun r h1 h2 h3 =>
    (cond_keep _ r h3).trans ((atK_keep m c r h2 64).trans (pre_keep _ r h1))
  have e0 := ea main_arg0 (by decide) (by decide) (by decide)
  have e6 := ea main_arg6 (by decide) (by decide) (by decide)
  have e7 := ea main_arg7 (by decide) (by decide) (by decide)
  have e4 : after condOps (atK m 64 c) (Proc.devRef .tc main_v65_4) = atK m 64 c (Proc.devRef .tc main_v65_4) := cond_keep _ main_v65_4 (by decide)
  rw [show finalContents condOps preI bodyI postI 64 m c = after hostOps0_7 (after hostOps0_6 (after hostOps0_5 (after condOps (atK m 64 c)))) from rfl, s7_v93,
    k6 _ main_arg0 (by decide), k5 _ main_arg0 (by decide), e0, k6 _ main_v2 (by decide), k5 _ main_v2 (by decide), e2, k6 _ main_arg7 (by decide), k5 _ main_arg7 (by decide), e7,
    s6_v87, k5 _ main_v32 (by decide), e32, k6 _ main_v86 (by decide), s5_v86, e4, e51, e43, e57, e6]
  refine (outOf_at _ _ _ _ _ b s k).trans ?_
  refine congrArg ((args m c).x (ix3 b s k) + ·) (congrArg₂ (· * ·) (mod2_at b _ k) (Finset.sum_congr rfl fun n _ => ?_))
  rw [gain_at, backOf_at, onRows_at, siluOf_at, part2064_at, proj_at]
  simp only [read_at m c f]
  rfl

end Cert.Reference4Ideal.Hand

namespace Cert.Reference4Ideal.Hand

open Cert.Reference4Ideal Cert.Reference4Ideal.Gen Cert.Reference4Ideal.Value
open Idealize.ShloMosaic Idealize.ShloMosaic.TcCoe Idealize.SL.Sem Idealize.ShloMosaic.StableHlo

theorem run_result (m : (ℓ : Loc nD τ sig) → Buf (Elt Ideal) ℓ) (ρ : Dev nD → PrngReg) (f : ∀ c, (args m c).Finite) : θ_run defs (onTc (τ := τ) (main (F := Ideal))) ⟨m, fun _ => 0, ρ⟩ (fun r => ∀ c : Dev nD,
      (∀ b s k, (r.2.mem ((c.tc : Thread nD τ).loc main_v93) : S4x4096x1024.Idx → EReal) (ix3 b s k) = (args m c).out (args m c).o b s k)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => by
    refine ⟨fun b s k => (congrFun (h c main_v93 rfl) (ix3 b s k)).trans (result_at m c (f c) b s k), ?_, ?_, ?_, ?_, ?_, ?_, ?_, ?_⟩ <;>
      exact (h c _ rfl).trans (final_keep m c _ (by decide))) (run_fold (F := Ideal) m ρ)

end Cert.Reference4Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Frame4
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Value
public import proofs.«01_k».proof.Proof.RefValue
public import proofs.«01_k».proof.Proof.Value2
public import proofs.«01_k».proof.Proof.RefValue2
public import proofs.«01_k».proof.Proof.Value3
public import proofs.«01_k».proof.Proof.GlaCall
public import proofs.«01_k».proof.Proof.GlaRefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-! ## Layer 1's call -/

/-- The two kernels' body tables are one table, compared label by label; -/
theorem bodies_eq : @Cert.Kernel.defs₀ Ideal _ Cert.Kernel.Gen.facts = @Cert.KernelIdeal.defs₀ Ideal _ Cert.KernelIdeal.Gen.facts := by
  unfold Cert.Kernel.defs₀ Cert.KernelIdeal.defs₀
  refine congrArg Defs.onTc ?_
  funext l a
  match l, a with
  | 0, (_, _) => rfl

theorem defs_eq : @Cert.Kernel.defs Ideal _ Cert.Kernel.Gen.facts = @Cert.KernelIdeal.defs Ideal _ Cert.KernelIdeal.Gen.facts :=
  congrArg (Pipeline.defs Cert.Kernel.pcfgs) bodies_eq

/-- so a run of the one is a run of the other. -/
theorem ideal_run {s : MemSt Cert.Kernel.nD Cert.Kernel.τ Cert.Kernel.sig (Elt Ideal)} {Q : PUnit × MemSt Cert.Kernel.nD Cert.Kernel.τ Cert.Kernel.sig (Elt Ideal) → Prop}
    (h : θ_run (@Cert.Kernel.defs Ideal _ Cert.Kernel.Gen.facts) (onTc (τ := Cert.Kernel.τ) (Cert.Kernel.main (F := Ideal))) s Q) :
    θ_run (@Cert.KernelIdeal.defs Ideal _ Cert.KernelIdeal.Gen.facts) (onTc (τ := Cert.KernelIdeal.τ) (Cert.KernelIdeal.main (F := Ideal))) s Q := by
  rw [← defs_eq]; exact h

/-- One run over any floats serves both frames: the two programs have the same text. -/
theorem frame_kernel : Cert.quiescent_Kernel (hKernel := Cert.Kernel.Gen.facts) := fun m ρ _ =>
  (θ_run Cert.Kernel.defs _ _).mono (fun _ h => ⟨h.2, h.1.2⟩) (Cert.Kernel.Hand.run_frame (F := Bits) m ρ)

theorem frame_kernelIdeal : Cert.quiescent_KernelIdeal (hKernelIdeal := Cert.KernelIdeal.Gen.facts) := fun m ρ _ =>
  ideal_run ((θ_run Cert.Kernel.defs _ _).mono (fun _ h => ⟨h.2, h.1.2⟩) (Cert.Kernel.Hand.run_frame (F := Ideal) m ρ))

/-- The reference writes no argument and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both runs end with the same array. -/
theorem value : Cert.algebraic_KernelIdeal_ReferenceIdeal (hKernelIdeal := Cert.KernelIdeal.Gen.facts) (hReferenceIdeal := Cert.ReferenceIdeal.Gen.facts) := by
  intro m ρ m' ρ' _ hagree
  refine ⟨fun c => Cert.Kernel.Hand.result m c, ideal_run (Cert.Kernel.Hand.run_result m ρ), ?_⟩
  refine (θ_run Cert.ReferenceIdeal.defs _ _).mono (fun r h c => ⟨(h c).1.trans ?_, (h c).2⟩) (Cert.ReferenceIdeal.Value.run (F := Ideal) m' ρ')
  obtain ⟨h0, h1, h2, h3, h4, h5⟩ := hagree c
  funext i
  obtain ⟨r, q, rfl⟩ : ∃ r q, i = ix2 r q := ⟨_, _, eq_ix2 i⟩
  rw [Cert.ReferenceIdeal.Hand.res_at, h0, h1, h2, h3, h4, h5]
  rfl

/-! ## Layer 0's call -/

/-- The two kernels' body tables are one table, compared label by label; -/
theorem bodies_eq2 : @Cert.Kernel2.defs₀ Ideal _ Cert.Kernel2.Gen.facts = @Cert.Kernel2Ideal.defs₀ Ideal _ Cert.Kernel2Ideal.Gen.facts := by
  unfold Cert.Kernel2.defs₀ Cert.Kernel2Ideal.defs₀
  refine congrArg Defs.onTc ?_
  funext l a
  match l, a with
  | 0, (_, _) => rfl

theorem defs_eq2 : @Cert.Kernel2.defs Ideal _ Cert.Kernel2.Gen.facts = @Cert.Kernel2Ideal.defs Ideal _ Cert.Kernel2Ideal.Gen.facts :=
  congrArg (Pipeline.defs Cert.Kernel2.pcfgs) bodies_eq2

/-- so a run of the one is a run of the other. -/
theorem ideal_run2 {s : MemSt Cert.Kernel2.nD Cert.Kernel2.τ Cert.Kernel2.sig (Elt Ideal)} {Q : PUnit × MemSt Cert.Kernel2.nD Cert.Kernel2.τ Cert.Kernel2.sig (Elt Ideal) → Prop}
    (h : θ_run (@Cert.Kernel2.defs Ideal _ Cert.Kernel2.Gen.facts) (onTc (τ := Cert.Kernel2.τ) (Cert.Kernel2.main (F := Ideal))) s Q) :
    θ_run (@Cert.Kernel2Ideal.defs Ideal _ Cert.Kernel2Ideal.Gen.facts) (onTc (τ := Cert.Kernel2Ideal.τ) (Cert.Kernel2Ideal.main (F := Ideal))) s Q := by
  rw [← defs_eq2]; exact h

/-- One run over any floats serves both frames: the two programs have the same text. -/
theorem frame_kernel2 : Cert.quiescent_Kernel2 (hKernel2 := Cert.Kernel2.Gen.facts) := fun m ρ _ =>
  (θ_run Cert.Kernel2.defs _ _).mono (fun _ h => ⟨h.2, h.1.2⟩) (Cert.Kernel2.Hand.run_frame (F := Bits) m ρ)

theorem frame_kernelIdeal2 : Cert.quiescent_Kernel2Ideal (hKernel2Ideal := Cert.Kernel2Ideal.Gen.facts) := fun m ρ _ =>
  ideal_run2 ((θ_run Cert.Kernel2.defs _ _).mono (fun _ h => ⟨h.2, h.1.2⟩) (Cert.Kernel2.Hand.run_frame (F := Ideal) m ρ))

/-- The reference writes no argument and declares no semaphore. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both runs end with the same array. -/
theorem value2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => Cert.Kernel2.Hand.result m c, ideal_run2 (Cert.Kernel2.Hand.run_result m ρ), ?_⟩
  refine (θ_run Cert.Reference2Ideal.defs _ _).mono (fun r h c => ⟨(h c).1.trans ?_, (h c).2⟩) (Cert.Reference2Ideal.Value.run (F := Ideal) m' ρ')
  obtain ⟨h0, h1, h2, h3, h4, h5⟩ := hagree c
  funext i
  obtain ⟨r, q, rfl⟩ : ∃ r q, i = ix2 r q := ⟨_, _, eq_ix2 i⟩
  rw [Cert.Reference2Ideal.Hand.res_at, h0, h1, h2, h3, h4]
  rfl

/-! ## The modulation call -/

/-- The reference writes no argument and declares no semaphore. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both runs end with the same array. -/
theorem value3 : Cert.algebraic_Kernel3Ideal_Reference3Ideal (hKernel3Ideal := Cert.Kernel3Ideal.Gen.facts) (hReference3Ideal := Cert.Reference3Ideal.Gen.facts) := by
  intro m ρ m' ρ' _ hagree
  refine ⟨fun c => Cert.Kernel3Ideal.Hand.result m c, Cert.Kernel3Ideal.Hand.run_result m ρ, ?_⟩
  refine (θ_run Cert.Reference3Ideal.defs _ _).mono (fun r h c => ⟨?_, (h c).2⟩) (Cert.Reference3Ideal.Hand.run_result m' ρ')
  obtain ⟨h0, h1, h2⟩ := hagree c
  funext i
  obtain ⟨l, b, q, rfl⟩ : ∃ l b q, i = ix3 l b q := ⟨_, _, _, eq_ix3 i⟩
  refine ((h c).1 l b q).trans ?_
  rw [h0, h1, h2]
  rfl

/-! ## The gated linear attention call -/

/-- The reference writes no argument and declares no semaphore. -/
theorem frame_reference4 : Cert.quiescent_Reference4Ideal (hReference4Ideal := Cert.Reference4Ideal.Gen.facts) := by
  intro m ρ _
  refine (θ_run Cert.Reference4Ideal.defs _ _).mono (fun r h => ⟨fun c => ?_, sem_eq_zero_of_no_sems (by decide) r.2⟩)
    (Cert.Reference4Ideal.Value.run_fold (F := Ideal) m ρ)
  refine ⟨?_, ?_, ?_, ?_, ?_, ?_, ?_, ?_⟩ <;>
    exact (h c _ rfl).trans (Cert.Reference4Ideal.Hand.final_keep m c _ (by decide))

/-- The precondition's shapes broadcast. -/
theorem facts_finite : Cert.Pre_finite.Facts := ⟨by decide, by decide, by decide, by decide, by decide⟩

/-- Arguments that meet it are finite where that is needed. -/
theorem finite4 (m : (ℓ : Loc Cert.Kernel4Ideal.nD Cert.Kernel4Ideal.τ Cert.Kernel4Ideal.sig) → Buf (Elt Ideal) ℓ)
    (h : Cert.Pre_Kernel4Ideal_finite (hPre_finite := facts_finite) m) (c : Dev Cert.Kernel4Ideal.nD) : (Cert.Kernel4Ideal.Hand.args m c).Finite := by
  obtain ⟨h1, h2, h3, h4, h5⟩ := h c
  exact ⟨Cert.Gla.real_of_lt _ _ h1, Cert.Gla.real_of_lt _ _ h2, Cert.Gla.real_of_lt _ _ h3, Cert.Gla.real_of_lt _ _ h4, Cert.Gla.real_of_lt _ _ h5⟩

/-- At finite weights the call's array is the reference's. -/
theorem value4 : Cert.algebraic_Kernel4Ideal_Reference4Ideal_pre_finite (hKernel4Ideal := Cert.Kernel4Ideal.Gen.facts) (hReference4Ideal := Cert.Reference4Ideal.Gen.facts) (hPre_finite := facts_finite) := by
  intro m ρ m' ρ' hfin hagree
  have ha : ∀ c, Cert.Reference4Ideal.Hand.args m' c = Cert.Kernel4Ideal.Hand.args m c := fun c => by
    obtain ⟨h0, h1, h2, h3, h4, h5, h6, h7⟩ := hagree c
    unfold Cert.Reference4Ideal.Hand.args
    rw [h0, h1, h2, h3, h4, h5, h6, h7]
    rfl
  refine ⟨fun c => Cert.Kernel4Ideal.Hand.result m c, Cert.Kernel4Ideal.Hand.run_result m ρ, ?_⟩
  refine (θ_run Cert.Reference4Ideal.defs _ _).mono (fun r h c => ⟨?_, (h c).2⟩)
    (Cert.Reference4Ideal.Hand.run_result m' ρ' fun c => by rw [ha c]; exact finite4 m hfin c)
  funext i
  obtain ⟨b, s, k, rfl⟩ : ∃ b s k, i = ix3 b s k := ⟨_, _, _, eq_ix3 i⟩
  refine ((h c).1 b s k).trans ?_
  rw [ha c]
  rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, facts_finite,
    frame_kernel, frame_kernelIdeal, frame_reference, frame_kernel2, frame_kernelIdeal2, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, fun m ρ _ => Cert.Kernel4Ideal.Gen.frame m ρ, frame_reference4, fun m ρ _ => frame_reference4 m ρ trivial,
    trivial, value, trivial, value2, trivial, value3, trivial, value4⟩

end Cert.Proof

end
